-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_d" .f32 0x3AAAAAAB#32 ((1 / 768 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v17)) (v4 : (c : Dev Cert.KernelIdeal.nD) → Buf (Elt Ideal) ((c.tc : Thread Cert.KernelIdeal.nD Cert.KernelIdeal.τ).loc Cert.KernelIdeal.main_v18)) (v5 : (c : Dev Cert.KernelIdeal.nD) → Buf (Elt Ideal) ((c.tc : Thread Cert.KernelIdeal.nD Cert.KernelIdeal.τ).loc Cert.KernelIdeal.main_v19)) (v6 : (c : Dev Cert.KernelIdeal.nD) → Buf (Elt Ideal) ((c.tc : Thread Cert.KernelIdeal.nD Cert.KernelIdeal.τ).loc Cert.KernelIdeal.main_v12_4)) (v7 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_v18) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_v12_4) = v6 c
          ∧ r.2.mem ((c.tc : Thread Cert.KernelIdeal.nD Cert.KernelIdeal.τ).loc Cert.KernelIdeal.main_v21) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_0) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_v7_4) = v4 c
          ∧ r.2.mem ((c.tc : Thread Cert.ReferenceIdeal.nD Cert.ReferenceIdeal.τ).loc Cert.ReferenceIdeal.main_v7_5) = v5 c
          ∧ r.2.mem ((c.tc : Thread Cert.ReferenceIdeal.nD Cert.ReferenceIdeal.τ).loc Cert.ReferenceIdeal.main_v7_6) = v6 c
          ∧ r.2.mem ((c.tc : Thread Cert.ReferenceIdeal.nD Cert.ReferenceIdeal.τ).loc Cert.ReferenceIdeal.main_v11) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x256x768 : Shape := ⟨3, ![128, 256, 768]⟩
abbrev S128x256 : Shape := ⟨2, ![128, 256]⟩
abbrev S128 : Shape := ⟨1, ![128]⟩
abbrev S768x768 : Shape := ⟨2, ![768, 768]⟩
abbrev S768 : Shape := ⟨1, ![768]⟩
abbrev S30522x768 : Shape := ⟨2, ![30522, 768]⟩
abbrev S30522 : Shape := ⟨1, ![30522]⟩
abbrev S32768x768 : Shape := ⟨2, ![32768, 768]⟩
abbrev S128x1x256 : Shape := ⟨3, ![128, 1, 256]⟩
abbrev S1x768 : Shape := ⟨2, ![1, 768]⟩
abbrev S256x768 : Shape := ⟨2, ![256, 768]⟩
abbrev S1x1x256 : Shape := ⟨3, ![1, 1, 256]⟩
abbrev S1x256 : Shape := ⟨2, ![1, 256]⟩
abbrev S256x128 : Shape := ⟨2, ![256, 128]⟩
abbrev S256x1 : Shape := ⟨2, ![256, 1]⟩
abbrev S256 : Shape := ⟨1, ![256]⟩
abbrev S198x768 : Shape := ⟨2, ![198, 768]⟩
abbrev S30720x768 : Shape := ⟨2, ![30720, 768]⟩
abbrev S1x30522 : Shape := ⟨2, ![1, 30522]⟩
abbrev S128x30522 : Shape := ⟨2, ![128, 30522]⟩
abbrev S2048x768 : Shape := ⟨2, ![2048, 768]⟩
abbrev S1x2048 : Shape := ⟨2, ![1, 2048]⟩
abbrev S128x2048 : Shape := ⟨2, ![128, 2048]⟩
abbrev S256x2048 : Shape := ⟨2, ![256, 2048]⟩
abbrev S1 : Shape := ⟨1, ![1]⟩
abbrev S2048 : Shape := ⟨1, ![2048]⟩
abbrev S128x128 : Shape := ⟨2, ![128, 128]⟩
abbrev S1x128 : Shape := ⟨2, ![1, 128]⟩
abbrev S32x30522 : Shape := ⟨2, ![32, 30522]⟩
abbrev S32x128 : Shape := ⟨2, ![32, 128]⟩
abbrev S32 : Shape := ⟨1, ![32]⟩
abbrev S32x1 : Shape := ⟨2, ![32, 1]⟩
abbrev S1x1 : Shape := ⟨2, ![1, 1]⟩
abbrev S128x1 : Shape := ⟨2, ![128, 1]⟩
abbrev S_ : Shape := ⟨0, ![]⟩

abbrev nBuf : Space → Nat
  | .hbm => 39
  | .vmem => 37
  | .smem => 1
  | _ => 0

abbrev bufTy : (tb : Table) → Fin (tcTables nBuf tb) → BufTy
  | .hbm, ⟨0, _⟩ => ⟨S128x256x768, .fp8e4m3⟩
  | .hbm, ⟨1, _⟩ => ⟨S128x256, .f32⟩
  | .hbm, ⟨2, _⟩ => ⟨S128, .i32⟩
  | .hbm, ⟨3, _⟩ => ⟨S768x768, .fp8e4m3⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S30522x768, .fp8e4m3⟩
  | .hbm, ⟨9, _⟩ => ⟨S30522, .f32⟩
  | .hbm, ⟨10, _⟩ => ⟨S30522, .f32⟩
  | .hbm, ⟨11, _⟩ => ⟨S32768x768, .fp8e4m3⟩
  | .hbm, ⟨12, _⟩ => ⟨S128x1x256, .f32⟩
  | .hbm, ⟨13, _⟩ => ⟨S1x768, .f32⟩
  | .hbm, ⟨14, _⟩ => ⟨S1x768, .f32⟩
  | .hbm, ⟨15, _⟩ => ⟨S1x768, .f32⟩
  | .hbm, ⟨16, _⟩ => ⟨S1x768, .f32⟩
  | .hbm, ⟨17, _⟩ => ⟨S32768x768, .fp8e4m3⟩
  | .hbm, ⟨18, _⟩ => ⟨S128x1x256, .f32⟩
  | .hbm, ⟨19, _⟩ => ⟨S198x768, .fp8e4m3⟩
  | .hbm, ⟨20, _⟩ => ⟨S30720x768, .fp8e4m3⟩
  | .hbm, ⟨21, _⟩ => ⟨S1x30522, .f32⟩
  | .hbm, ⟨22, _⟩ => ⟨S1x30522, .f32⟩
  | .hbm, ⟨23, _⟩ => ⟨S128x30522, .f32⟩
  | .hbm, ⟨24, _⟩ => ⟨S128x30522, .f32⟩
  | .hbm, ⟨25, _⟩ => ⟨S128x128, .f32⟩
  | .hbm, ⟨26, _⟩ => ⟨S1x30522, .f32⟩
  | .hbm, ⟨27, _⟩ => ⟨S1x128, .f32⟩
  | .hbm, ⟨28, _⟩ => ⟨S128x30522, .i8⟩
  | .hbm, ⟨29, _⟩ => ⟨S128x128, .f32⟩
  | .hbm, ⟨30, _⟩ => ⟨S128x1, .f32⟩
  | .hbm, ⟨31, _⟩ => ⟨S128, .f32⟩
  | .hbm, ⟨32, _⟩ => ⟨S30522, .f32⟩
  | .hbm, ⟨33, _⟩ => ⟨S1x1, .f32⟩
  | .hbm, ⟨34, _⟩ => ⟨S_, .f32⟩
  | .hbm, ⟨35, _⟩ => ⟨S128x256x768, .fp8e4m3⟩
  | .hbm, ⟨36, _⟩ => ⟨S128x256, .f32⟩
  | .hbm, ⟨37, _⟩ => ⟨S128x1, .f32⟩
  | .hbm, ⟨38, _⟩ => ⟨S128, .f32⟩
  | .local _ .vmem, ⟨0, _⟩ => ⟨S256x768, .fp8e4m3⟩
  | .local _ .vmem, ⟨1, _⟩ => ⟨S256x768, .fp8e4m3⟩
  | .local _ .vmem, ⟨2, _⟩ => ⟨S1x1x256, .f32⟩
  | .local _ .vmem, ⟨3, _⟩ => ⟨S1x1x256, .f32⟩
  | .local _ .vmem, ⟨4, _⟩ => ⟨S768x768, .fp8e4m3⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S256x768, .fp8e4m3⟩
  | .local _ .vmem, ⟨10, _⟩ => ⟨S256x768, .fp8e4m3⟩
  | .local _ .vmem, ⟨11, _⟩ => ⟨S1x1x256, .f32⟩
  | .local _ .vmem, ⟨12, _⟩ => ⟨S1x1x256, .f32⟩
  | .local _ .vmem, ⟨13, _⟩ => ⟨S256x768, .fp8e4m3⟩
  | .local _ .vmem, ⟨14, _⟩ => ⟨S256x768, .fp8e4m3⟩
  | .local _ .vmem, ⟨15, _⟩ => ⟨S1x1x256, .f32⟩
  | .local _ .vmem, ⟨16, _⟩ => ⟨S1x1x256, .f32⟩
  | .local _ .vmem, ⟨17, _⟩ => ⟨S2048x768, .fp8e4m3⟩
  | .local _ .vmem, ⟨18, _⟩ => ⟨S2048x768, .fp8e4m3⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S128x2048, .f32⟩
  | .local _ .vmem, ⟨24, _⟩ => ⟨S128x2048, .f32⟩
  | .local _ .vmem, ⟨25, _⟩ => ⟨S32x30522, .f32⟩
  | .local _ .vmem, ⟨26, _⟩ => ⟨S32x30522, .f32⟩
  | .local _ .vmem, ⟨27, _⟩ => ⟨S32x30522, .f32⟩
  | .local _ .vmem, ⟨28, _⟩ => ⟨S32x30522, .f32⟩
  | .local _ .vmem, ⟨29, _⟩ => ⟨S32x128, .f32⟩
  | .local _ .vmem, ⟨30, _⟩ => ⟨S32x128, .f32⟩
  | .local _ .vmem, ⟨31, _⟩ => ⟨S1x30522, .f32⟩
  | .local _ .vmem, ⟨32, _⟩ => ⟨S1x128, .f32⟩
  | .local _ .vmem, ⟨33, _⟩ => ⟨S32x30522, .i8⟩
  | .local _ .vmem, ⟨34, _⟩ => ⟨S32x30522, .i8⟩
  | .local _ .vmem, ⟨35, _⟩ => ⟨S32x128, .f32⟩
  | .local _ .vmem, ⟨36, _⟩ => ⟨S32x128, .f32⟩
  | .local _ .smem, ⟨0, _⟩ => ⟨S128, .i32⟩
  | _, _ => ⟨S128x256x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg6_1 : Ref sig .tc := ⟨.vmem, 36, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem5_1 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x768 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x768 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![15, 128], ![false, false]⟩

def k1_off1 (i : grid1.Coords) : Fin 1 → Nat :=
  let arg1 : BitVec 32 := BitVec.ofNat 32 (i 1).val
  let v22 : Index := Scalar.indexCast arg1
  ![v22.toNat]
def k1_off2 (i : grid1.Coords) : Fin 2 → Nat :=
  let arg1 : BitVec 32 := BitVec.ofNat 32 (i 1).val
  let v30 : Index := Scalar.indexCast arg1
  let c0_12 : Index := 0#32
  ![v30.toNat, 0]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .smem S128 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S256x768 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x768 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![4], ![false]⟩

def k2_cond1 (i : grid2.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_17 : BitVec 32 := 0#32
  let v36 : BitVec 1 := Scalar.cmpi .ne v35 c0_i32_17
  v36

def k2_cond2 (i : grid2.Coords) : BitVec 1 :=
  let arg0 : BitVec 32 := BitVec.ofNat 32 (i 0).val
  let c0_i32_18 : BitVec 32 := 0#32
  let v37 : BitVec 1 := Scalar.cmpi .sgt arg0 c0_i32_18
  let v38 : BitVec 32 := Scalar.extui v37
  let c0_i32_19 : BitVec 32 := 0#32
  let v39 : BitVec 1 := Scalar.cmpi .ne v38 c0_i32_19
  v39

def k2_cond3 (i : grid2.Coords) : BitVec 1 :=
  let arg0 : BitVec 32 := BitVec.ofNat 32 (i 0).val
  let c3_i32 : BitVec 32 := 3#32
  let v40 : BitVec 1 := Scalar.cmpi .eq arg0 c3_i32
  let v41 : BitVec 32 := Scalar.extui v40
  let c0_i32_20 : BitVec 32 := 0#32
  let v42 : BitVec 1 := Scalar.cmpi .ne v41 c0_i32_20
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x30522 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x30522 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x30522 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S32x30522 .i8 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S32x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== KernelIdeal.lean ====
variable {F : FTy → Type} [FloatOps F] [Named F]
def κ : String → Option EReal := fun
  | "inv_d" => some ((1 / 768 : ℝ) : EReal)
  | _ => none
-- ==== ReferenceIdeal.lean ====
abbrev S128x256x768 : Shape := ⟨3, ![128, 256, 768]⟩
abbrev S128x256 : Shape := ⟨2, ![128, 256]⟩
abbrev S128 : Shape := ⟨1, ![128]⟩
abbrev S768x768 : Shape := ⟨2, ![768, 768]⟩
abbrev S768 : Shape := ⟨1, ![768]⟩
abbrev S30522x768 : Shape := ⟨2, ![30522, 768]⟩
abbrev S30522 : Shape := ⟨1, ![30522]⟩
abbrev S128x1x1 : Shape := ⟨3, ![128, 1, 1]⟩
abbrev S1x768 : Shape := ⟨2, ![1, 768]⟩
abbrev S1x30522 : Shape := ⟨2, ![1, 30522]⟩
abbrev S128x30522 : Shape := ⟨2, ![128, 30522]⟩
abbrev S128x1 : Shape := ⟨2, ![128, 1]⟩
abbrev S1x1 : Shape := ⟨2, ![1, 1]⟩
abbrev S32768x768 : Shape := ⟨2, ![32768, 768]⟩
abbrev S128x256x1 : Shape := ⟨3, ![128, 256, 1]⟩
abbrev S1x1x768 : Shape := ⟨3, ![1, 1, 768]⟩
abbrev S32768x30522 : Shape := ⟨2, ![32768, 30522]⟩
abbrev S128x256x30522 : Shape := ⟨3, ![128, 256, 30522]⟩
abbrev S1x1x30522 : Shape := ⟨3, ![1, 1, 30522]⟩
abbrev S1 : Shape := ⟨1, ![1]⟩
abbrev S_ : Shape := ⟨0, ![]⟩

abbrev nBuf : Space → Nat
  | .hbm => 30
  | .vmem => 19
  | .smem => 0
  | _ => 0

abbrev bufTy : (tb : Table) → Fin (tcTables nBuf tb) → BufTy
  | .hbm, ⟨0, _⟩ => ⟨S128x256x768, .fp8e4m3⟩
  | .hbm, ⟨1, _⟩ => ⟨S128x256, .f32⟩
  | .hbm, ⟨2, _⟩ => ⟨S128, .i32⟩
  | .hbm, ⟨3, _⟩ => ⟨S768x768, .fp8e4m3⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S30522x768, .fp8e4m3⟩
  | .hbm, ⟨9, _⟩ => ⟨S30522, .f32⟩
  | .hbm, ⟨10, _⟩ => ⟨S30522, .f32⟩
  | .hbm, ⟨11, _⟩ => ⟨S128x1x1, .i32⟩
  | .hbm, ⟨12, _⟩ => ⟨S1x768, .f32⟩
  | .hbm, ⟨13, _⟩ => ⟨S1x768, .f32⟩
  | .hbm, ⟨14, _⟩ => ⟨S1x768, .f32⟩
  | .hbm, ⟨15, _⟩ => ⟨S1x768, .f32⟩
  | .hbm, ⟨16, _⟩ => ⟨S1x30522, .f32⟩
  | .hbm, ⟨17, _⟩ => ⟨S1x30522, .f32⟩
  | .hbm, ⟨18, _⟩ => ⟨S128x30522, .f32⟩
  | .hbm, ⟨19, _⟩ => ⟨S128x1, .f32⟩
  | .hbm, ⟨20, _⟩ => ⟨S1x30522, .f32⟩
  | .hbm, ⟨21, _⟩ => ⟨S1x1, .f32⟩
  | .hbm, ⟨22, _⟩ => ⟨S128x256x768, .fp8e4m3⟩
  | .hbm, ⟨23, _⟩ => ⟨S128x256, .f32⟩
  | .hbm, ⟨24, _⟩ => ⟨S128x30522, .i8⟩
  | .hbm, ⟨25, _⟩ => ⟨S128x1, .f32⟩
  | .hbm, ⟨26, _⟩ => ⟨S128, .f32⟩
  | .hbm, ⟨27, _⟩ => ⟨S30522, .f32⟩
  | .hbm, ⟨28, _⟩ => ⟨S_, .f32⟩
  | .hbm, ⟨29, _⟩ => ⟨S128, .f32⟩
  | .local _ .vmem, ⟨0, _⟩ => ⟨S128x256x768, .fp8e4m3⟩
  | .local _ .vmem, ⟨1, _⟩ => ⟨S128x256, .f32⟩
  | .local _ .vmem, ⟨2, _⟩ => ⟨S128x1x1, .i32⟩
  | .local _ .vmem, ⟨3, _⟩ => ⟨S768x768, .fp8e4m3⟩
  | .local _ .vmem, ⟨4, _⟩ => ⟨S1x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S30522x768, .fp8e4m3⟩
  | .local _ .vmem, ⟨9, _⟩ => ⟨S1x30522, .f32⟩
  | .local _ .vmem, ⟨10, _⟩ => ⟨S1x30522, .f32⟩
  | .local _ .vmem, ⟨11, _⟩ => ⟨S128x30522, .f32⟩
  | .local _ .vmem, ⟨12, _⟩ => ⟨S128x1, .f32⟩
  | .local _ .vmem, ⟨13, _⟩ => ⟨S1x30522, .f32⟩
  | .local _ .vmem, ⟨14, _⟩ => ⟨S1x1, .f32⟩
  | .local _ .vmem, ⟨15, _⟩ => ⟨S128x256x768, .fp8e4m3⟩
  | .local _ .vmem, ⟨16, _⟩ => ⟨S128x256, .f32⟩
  | .local _ .vmem, ⟨17, _⟩ => ⟨S128x30522, .i8⟩
  | .local _ .vmem, ⟨18, _⟩ => ⟨S128x1, .f32⟩
  | _, _ => ⟨S128x256x768, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev main_v7_6 : Ref sig .tc := ⟨.hbm, 24, rfl⟩
abbrev main_v7_7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S128x256x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x768 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S30522x768 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x30522 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x30522 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x30522 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x30522 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x256x768 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x30522 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.K.Transform.lean ====
/- The transform call at the contents of the buffers it is entered with: what its body leaves in the two output
   windows' buffers, and that the body runs at every grid point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

/-! # REGION 0 of @main: custom_call 0, `cc0_transform` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x768 := Rect.unit (s := S256x768) ![0, 0] S256x768.size inb_S256x768_S256x768_0_0
abbrev r0_1 : Rect S768x768 := Rect.unit (s := S768x768) ![0, 0] S768x768.size inb_S768x768_S768x768_0_0
abbrev r0_2 : Rect S1x1x256 := Rect.unit (s := S1x1x256) ![0, 0, 0] S1x1x256.size inb_S1x1x256_S1x1x256_0_0_0
abbrev r0_3 : Rect S1x768 := Rect.unit (s := S1x768) ![0, 0] S1x768.size inb_S1x768_S1x768_0_0

/-! ## What the body leaves in each output window's buffer -/

/-! ### Values of the body that the stores' payloads, spelt out, would write more than once

    Each is a vector the body binds (often a part call's result), stated over the input windows' blocks and
    numbered on from the skeleton's payload functions (`k0_pay7` …, after `k0_pay6`), so that
    `out0_W` and the values after it name it instead of spelling it out (`unfold_out out0_W` opens a canon
    with them, `unfold_payloads` opens them with the payloads); the comment after each is the printed function's
    name for the value (a count appended where that name is bound again). -/

def k0_pay7 (x0 : Vec F S256x768 .fp8e4m3) (x1 : Vec F S1x1x256 .f32) (x2 : Vec F S768x768 .fp8e4m3) (x3 : Vec F S1x768 .f32) (x4 : Vec F S1x768 .f32) (x5 : Vec F S1x768 .f32) (x6 : Vec F S1x768 .f32) : FVec F S256x768 .f32 :=
  k0_pay5 (View.ld x0 r0_0) (View.ld x2 r0_1) (View.ld x1 r0_2) (View.ld x3 r0_3) (View.ld x4 r0_3) -- `v33`
def k0_pay8 (x0 : Vec F S256x768 .fp8e4m3) (x1 : Vec F S1x1x256 .f32) (x2 : Vec F S768x768 .fp8e4m3) (x3 : Vec F S1x768 .f32) (x4 : Vec F S1x768 .f32) (x5 : Vec F S1x768 .f32) (x6 : Vec F S1x768 .f32) : FVec F S256x1 .f32 :=
  k0_pay6 (View.ld x0 r0_0) (View.ld x2 r0_1) (View.ld x1 r0_2) (View.ld x3 r0_3) (View.ld x4 r0_3) -- `v38`

/-- Window 7's staging buffer after the body, from the input windows' blocks: its 1 store as pieces, LAST
    FIRST (Lib/Pipeline/FrameBody.lean `View.canon`; the payloads are the skeleton's and the values stated above). -/
def out0_7 (x0 : Vec F S256x768 .fp8e4m3) (x1 : Vec F S1x1x256 .f32) (x2 : Vec F S768x768 .fp8e4m3) (x3 : Vec F S1x768 .f32) (x4 : Vec F S1x768 .f32) (x5 : Vec F S1x768 .f32) (x6 : Vec F S1x768 .f32) : Vec F S256x768 .fp8e4m3 :=
  View.canon [⟨r0_0, k0_pay3 (k0_pay7 x0 x1 x2 x3 x4 x5 x6) (k0_pay8 x0 x1 x2 x3 x4 x5 x6) (Scalar.ofBits .f32 0x2B8CBCCC#32) (View.ld x5 r0_3) (View.ld x6 r0_3)⟩]

/-- Its stores tile the buffer (checked by evaluation), so they cover it. -/
theorem cover0_7 (p0 : Vec F S256x768 .fp8e4m3) (y : S256x768.Idx) :
    ∃ pc ∈ ([⟨r0_0, p0⟩] : List (View.Piece (Elt F) S256x768 .fp8e4m3)), y ∈ pc.1.set :=
  View.cover_of_tiled [⟨r0_0, p0⟩] S256x768.size (by rfl) y

/-- Window 8's staging buffer after the body, from the input windows' blocks: its 1 store as pieces, LAST
    FIRST (Lib/Pipeline/FrameBody.lean `View.canon`; the payloads are the skeleton's and the values stated above). -/
def out0_8 (x0 : Vec F S256x768 .fp8e4m3) (x1 : Vec F S1x1x256 .f32) (x2 : Vec F S768x768 .fp8e4m3) (x3 : Vec F S1x768 .f32) (x4 : Vec F S1x768 .f32) (x5 : Vec F S1x768 .f32) (x6 : Vec F S1x768 .f32) : Vec F S1x1x256 .f32 :=
  View.canon [⟨r0_2, k0_pay4 (k0_pay7 x0 x1 x2 x3 x4 x5 x6) (k0_pay8 x0 x1 x2 x3 x4 x5 x6) (Scalar.ofBits .f32 0x2B8CBCCC#32) (View.ld x5 r0_3) (View.ld x6 r0_3)⟩]

/-- Its stores tile the buffer (checked by evaluation), so they cover it. -/
theorem cover0_8 (p0 : Vec F S1x1x256 .f32) (y : S1x1x256.Idx) :
    ∃ pc ∈ ([⟨r0_2, p0⟩] : List (View.Piece (Elt F) S1x1x256 .f32)), y ∈ pc.1.set :=
  View.cover_of_tiled [⟨r0_2, p0⟩] S1x1x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x768 .fp8e4m3) (harg1 : arg1.IsWhole) (arg2 : Memref sig .tc .vmem S1x1x256 .f32) (harg2 : arg2.IsWhole) (arg3 : Memref sig .tc .vmem S768x768 .fp8e4m3) (harg3 : arg3.IsWhole) (arg4 : Memref sig .tc .vmem S1x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S256x768 .fp8e4m3) (harg8 : arg8.IsWhole) (arg9 : Memref sig .tc .vmem S1x1x256 .f32) (harg9 : arg9.IsWhole)
    (x0 : Vec F S256x768 .fp8e4m3) (x1 : Vec F S1x1x256 .f32) (x2 : Vec F S768x768 .fp8e4m3) (x3 : Vec F S1x768 .f32) (x4 : Vec F S1x768 .f32) (x5 : Vec F S1x768 .f32) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0_transform i arg1 harg1 arg2 harg2 arg3 harg3 arg4 harg4 arg5 harg5 arg6 harg6 arg7 harg7 arg8 harg8 arg9 harg9) K := by
  simp only [cc0_transform_eq_skeleton]; unfold cc0_transform_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rfl
  iexists _; isplitr
  swap; · iexact H8
  ipureintro
  refine (View.read_writes_eq_canon _ _ _ (cover0_8 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Whole

end
-- ==== Proof.K.DecodeBody.lean ====
/- The decode call's body: one document's row of one vocabulary tile. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Writes
public import Idealize.ShloMosaic.Lib.WritesUnit
public import Idealize.ShloMosaic.Lib.VecWindow
public import Idealize.ShloMosaic.Lib.Pointwise
public import Idealize.ShloMosaic.PureOps.Reduce

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A reduction's element depends only on the source elements that reduce to it. -/
theorem reduceFold_congr {α : Type} {s t : Shape} {axes : List (Fin s.rank)} (h : s.Reduces axes t) (f : α → α → α) (a : α)
    (x y : s.Idx → α) (j : t.Idx) (hxy : ∀ i, h.drop i = j → x i = y i) : reduceFold h f a x j = reduceFold h f a y j := by
  unfold reduceFold
  refine List.foldl_ext _ _ _ fun r n hn => ?_
  rw [hxy _ (by simpa using (List.mem_filter.mp hn).2)]

/-- Column `q` of the row the body stores depends on the scale and bias blocks at column `q` only. -/
theorem k1_pay1_congr (v0 : Vec F S1x1x256 .f32) (v6 : Vec F S256x768 .fp8e4m3) (v8 : Vec F S2048x768 .fp8e4m3)
    (v13 v13' v17 v17' : Vec F S1x2048 .f32) (v23 : Elt F .i32) (q : Fin 2048)
    (h13 : v13 (ix2 0 q) = v13' (ix2 0 q)) (h17 : v17 (ix2 0 q) = v17' (ix2 0 q)) :
    k1_pay1 v0 v6 v8 v13 v17 v23 (ix2 0 q) = k1_pay1 v0 v6 v8 v13' v17' v23 (ix2 0 q) := by
  simp only [k1_pay1]
  unfold shapeCast
  generalize hk : (Shape.reshapeEquiv _ (ix2 (0 : Fin 1) q) : S2048.Idx) = k
  have hk' : k = ix1 q := by
    rw [← hk]; pointwise
  rw [hk']
  refine reduceFold_congr reduces_S256x2048_S2048 _ _ _ _ _ fun i hi => ?_
  have h1 : (i 1).val = q.val := by
    have h := congrArg Fin.val (congrFun hi 0)
    rw [Shape.Reduces.drop_apply_val_of_eq _ i 0 1] at h
    exact h
  idx_vars i
  have h1' : i1 = q := Fin.ext h1
  subst h1'
  pointwise
  rw [h13, h17]

/-- The row of `S128x2048` the body stores at grid coordinates `i`, and the position of the length it reads. -/
theorem k1_off1_eq (i : grid1.Coords) : k1_off1 i = ![(i 1).val] := by
  have h : (i 1).val < 128 := (i 1).isLt
  unfold k1_off1
  show ![(Scalar.indexCast (BitVec.ofNat 32 (i 1).val)).toNat] = _
  unfold Scalar.indexCast
  simp
  omega
theorem k1_off2_eq (i : grid1.Coords) : k1_off2 i = ![(i 1).val, 0] := by
  have h : (i 1).val < 128 := (i 1).isLt
  unfold k1_off2
  show ![(Scalar.indexCast (BitVec.ofNat 32 (i 1).val)).toNat, 0] = _
  unfold Scalar.indexCast
  simp
  omega

set_option maxHeartbeats 1000000 in
/-- The body of the decode call on whole buffers at the contents `x0 … x6`: the inputs are kept, and the output's row of the
    document is replaced by the row computed. -/
theorem sound_kernel1 (c : Dev nD) (E : Set ℕ) (i : grid1.Coords) (arg2 : Memref sig .tc .smem S128 .i32) (harg2 : arg2.IsWhole) (arg3 : Memref sig .tc .vmem S256x768 .fp8e4m3) (harg3 : arg3.IsWhole) (arg4 : Memref sig .tc .vmem S1x1x256 .f32) (harg4 : arg4.IsWhole) (arg5 : Memref sig .tc .vmem S2048x768 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S128x2048 .f32) (harg8 : arg8.IsWhole)
    (x0 : Vec F S128 .i32) (x1 : Vec F S256x768 .fp8e4m3) (x2 : Vec F S1x1x256 .f32) (x3 : Vec F S2048x768 .fp8e4m3) (x4 : Vec F S1x2048 .f32) (x5 : Vec F S1x2048 .f32) (x6 : Vec F S128x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ X, ⌜(∀ q : Fin 2048, X (ix2 (⟨(i 1).val, (i 1).isLt⟩ : Fin 128) q) = k1_pay1 x2 x1 x3 x4 x5 (x0 (ix1 (⟨(i 1).val, (i 1).isLt⟩ : Fin 128))) (ix2 0 q))
                ∧ ∀ (r : Fin 128) (q : Fin 2048), r.val ≠ (i 1).val → X (ix2 r q) = x6 (ix2 r q)⌝ ∗ owns (c : Thread nD τ) arg8 fullShare X)) -∗ K ⟨⟩))
      ⊢ wp frame (wpE (defs₀ (F := F)) Variants.none c none) E (cc1_decode i arg2 harg2 arg3 harg3 arg4 harg4 arg5 harg5 arg6 harg6 arg7 harg7 arg8 harg8) K := by
  simp only [cc1_decode_eq_skeleton]; unfold cc1_decode_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _
  isplitr
  swap
  · iexists _; isplitr
    swap; · iexact H6
    ipureintro
    rfl
  ipureintro
  refine ⟨fun q => ?_, fun r q hr => ?_⟩
  · refine (View.read_writes_cons_unit_of_mem arg8.view f6 _ _ _ _ (ix2 (0 : Fin 1) q) (k1_off2_eq i) ?_).trans ?_
    · intro a
      match a with
      | ⟨0, _⟩ => rfl
      | ⟨1, _⟩ => show q.val = 0 + q.val; omega
    · unfold sound_kernel1.sl.r
      have e0 : View.readAt (Elt F) arg2.view (Rect.unit (s := S128) (k1_off1 i) S1.size (k1_off1_inb i)).toLoadRect f0 (Shape.Idx.first numel1_S1.ge)
          = View.read (Elt F) arg2.view f0 (ix1 (⟨(i 1).val, (i 1).isLt⟩ : Fin 128)) := by
        refine congrArg (View.read (Elt F) arg2.view f0) (funext fun a => Fin.ext ?_)
        match a with
        | ⟨0, _⟩ => show k1_off1 i 0 + 1 * 0 = (i 1).val; rw [k1_off1_eq]; rfl
      refine congrFun ?_ _
      refine congr (congr (congr (congr (congr (congrArg _ (View.readAt_full _ _ _)) (View.readAt_full _ _ _)) (View.readAt_full _ _ _)) (View.readAt_full _ _ _)) (View.readAt_full _ _ _)) e0
  · refine (View.read_writes_cons_unit_of_not_mem arg8.view f6 _ _ _ _ (k1_off2_eq i) 0 ?_).trans rfl
    show r.val < (i 1).val ∨ (i 1).val + 1 ≤ r.val
    omega

end Cert.Kernel.Whole

end
-- ==== Proof.K.Decode.lean ====
/- The decode call at the contents of the buffers it is entered with: what the output tile holds after each grid point,
   and that the body runs at every grid point. The tile's columns past the array's end are never named. -/
module

public import proofs.«01_k».proof.Proof.K.DecodeBody
public import Idealize.ShloMosaic.Lib.Pipeline.DatRel
public import Idealize.ShloMosaic.Lib.Pipeline.ArrRel
@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

open Idealize.ShloMosaic.Pipeline (BodyObligationRel RDat)

/-! ## The blocks -/

/-- Window `w`'s block at point `t`, read off its array as the region finds it: the part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scale block at point `t`, its columns past the array's end filled with zeros. -/
def esb (c : Dev nD) (t : Fin cfg1.N) : Vec F S1x2048 .f32 :=
  (cfg1.win 4).fill (cfg1.grid.coords t) (fun _ => Scalar.ofBits .f32 0#32) (iblk1 V c 4 t)
/-- The bias block at point `t`, likewise. -/
def bvb (c : Dev nD) (t : Fin cfg1.N) : Vec F S1x2048 .f32 :=
  (cfg1.win 5).fill (cfg1.grid.coords t) (fun _ => Scalar.ofBits .f32 0#32) (iblk1 V c 5 t)

/-- The grid's points, tile-major: the document of point `t`, -/
def docOf (t : Fin cfg1.N) : Fin 128 := ⟨t.val % 128, Nat.mod_lt _ (by decide)⟩
/-- and its vocabulary tile. -/
def tileOf (t : Fin cfg1.N) : ℕ := t.val / 128

theorem coords1_1 (t : Fin cfg1.N) : (grid1.coords t 1).val = t.val % 128 := by
  have e1 : (grid1.coords t 1).val = t.val / 1 % 128 := Pipeline.Grid.coords_val t 1 (by decide) rfl
  omega
theorem coords1_0 (t : Fin cfg1.N) : (grid1.coords t 0).val = t.val / 128 := by
  have e0 : (grid1.coords t 0).val = t.val / 128 % 15 := Pipeline.Grid.coords_val t 0 (by decide) rfl
  have := t.isLt
  have h : cfg1.N = 1920 := N_1
  omega

/-- The row that the body stores at point `t`: its document's maxima over one vocabulary tile. -/
def rowAt (c : Dev nD) (t : Fin cfg1.N) : Vec F S1x2048 .f32 :=
  k1_pay1 (iblk1 V c 2 t) (iblk1 V c 1 t) (iblk1 V c 3 t) (esb V c t) (bvb V c t)
    (iblk1 V c 0 t (ix1 (docOf t)))

theorem pt_lt (t : Fin cfg1.N) (b : Fin 128) : t.val / 128 * 128 + b.val < cfg1.N := by
  have := t.isLt
  have h : cfg1.N = 1920 := N_1
  have := b.isLt
  omega

/-- The whole vocabulary tile of point `t`, every document's row in it. -/
def fullTile (c : Dev nD) (t : Fin cfg1.N) : Vec F S128x2048 .f32 := fun j =>
  rowAt V c ⟨t.val / 128 * 128 + (j 0).val, pt_lt t (j 0)⟩ (ix2 0 (j 1))

/-! ## The proof data -/

/-- The exact part of the proof data: the inputs' buffers hold their blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => esb V c t
    | ⟨5, _⟩ => bvb V c t
    | ⟨6, _⟩ => fullTile V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = esb V c t := by dsimp only [dat1]
theorem after1_6 (c : Dev nD) (t : Fin cfg1.N) : (dat1 V c).after 6 t = fullTile V c t := by dsimp only [dat1]
theorem after1_5 (c : Dev nD) (t : Fin cfg1.N) : (dat1 V c).after 5 t = bvb V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- A clipped input's buffer holds its block on the columns inside the array, and anything past them. -/
theorem before1_4 (c : Dev nD) (t : Fin cfg1.N) (d) : (dat1 V c).before 4 t d = (cfg1.win 4).fill (cfg1.grid.coords t) d (iblk1 V c 4 t) :=
  ((dat1 V c).before_in_eq_fetched 4 rfl (fun _ => rfl)
    (fun t t' h => funext fun a => congrArg (fun f : Fin 2 → ℕ => Pipeline.Clip.of (f a) (S1x2048.size a) (S1x30522.size a)) h)
    (fun t => by rw [after1_4]; unfold Dat.blockOf esb iblk1; rw [A_eq1, Window.cut_fill]) t d).trans
    (by unfold Dat.fetched Dat.blockOf iblk1; rw [A_eq1]; try rfl)
/-- A clipped input's buffer holds its block on the columns inside the array, and anything past them. -/
theorem before1_5 (c : Dev nD) (t : Fin cfg1.N) (d) : (dat1 V c).before 5 t d = (cfg1.win 5).fill (cfg1.grid.coords t) d (iblk1 V c 5 t) :=
  ((dat1 V c).before_in_eq_fetched 5 rfl (fun _ => rfl)
    (fun t t' h => funext fun a => congrArg (fun f : Fin 2 → ℕ => Pipeline.Clip.of (f a) (S1x2048.size a) (S1x30522.size a)) h)
    (fun t => by rw [after1_5]; unfold Dat.blockOf bvb iblk1; rw [A_eq1, Window.cut_fill]) t d).trans
    (by unfold Dat.fetched Dat.blockOf iblk1; rw [A_eq1]; try rfl)

/-- A column inside the array is among those that a clipped transfer moves. -/
theorem lt_extent {ix k d j : ℕ} (hj : j < k) (h : ix * k + j < d) : j < (Pipeline.Clip.of ix k d).extent k := by
  unfold Pipeline.Clip.of
  split
  · exact hj
  · show j < d - ix * k
    omega

/-- Two fills of a clipped row agree at the columns inside the array. -/
theorem fill4_congr (t : Fin cfg1.N) (d d' : Vec F S1x2048 .f32) (g) (q : Fin 2048) (hq : t.val / 128 * 2048 + q.val < 30522) :
    (cfg1.win 4).fill (cfg1.grid.coords t) d g (ix2 0 q) = (cfg1.win 4).fill (cfg1.grid.coords t) d' g (ix2 0 q) := by
  have h : (cfg1.win 4).moved (cfg1.grid.coords t) (ix2 0 q) = true := by
    rw [Window.moved_iff]
    intro a
    match a with
    | ⟨0, _⟩ => exact lt_extent (ix := 0) (k := 1) (d := 1) (j := 0) (by decide) (by decide)
    | ⟨1, _⟩ =>
      refine lt_extent (ix := cc1_transform_4 (grid1.coords t) 1) (k := 2048) (d := 30522) (j := q.val) q.isLt ?_
      have e : cc1_transform_4 (grid1.coords t) 1 = (BitVec.ofNat 32 (grid1.coords t 0).val).toNat := rfl
      rw [e, coords1_0, BitVec.toNat_ofNat]
      have := t.isLt
      have h : cfg1.N = 1920 := N_1
      omega
  unfold Window.fill
  rw [dif_pos h, dif_pos h]
/-- Two fills of a clipped row agree at the columns inside the array. -/
theorem fill5_congr (t : Fin cfg1.N) (d d' : Vec F S1x2048 .f32) (g) (q : Fin 2048) (hq : t.val / 128 * 2048 + q.val < 30522) :
    (cfg1.win 5).fill (cfg1.grid.coords t) d g (ix2 0 q) = (cfg1.win 5).fill (cfg1.grid.coords t) d' g (ix2 0 q) := by
  have h : (cfg1.win 5).moved (cfg1.grid.coords t) (ix2 0 q) = true := by
    rw [Window.moved_iff]
    intro a
    match a with
    | ⟨0, _⟩ => exact lt_extent (ix := 0) (k := 1) (d := 1) (j := 0) (by decide) (by decide)
    | ⟨1, _⟩ =>
      refine lt_extent (ix := cc1_transform_5 (grid1.coords t) 1) (k := 2048) (d := 30522) (j := q.val) q.isLt ?_
      have e : cc1_transform_5 (grid1.coords t) 1 = (BitVec.ofNat 32 (grid1.coords t 0).val).toNat := rfl
      rw [e, coords1_0, BitVec.toNat_ofNat]
      have := t.isLt
      have h : cfg1.N = 1920 := N_1
      omega
  unfold Window.fill
  rw [dif_pos h, dif_pos h]

/-! ## The body obligation -/

/-- Only the output window is held to a relation. -/
def fgt1 : Fin cfg1.W → Bool := fun | ⟨0, _⟩ => false | ⟨1, _⟩ => false | ⟨2, _⟩ => false | ⟨3, _⟩ => false | ⟨4, _⟩ => false | ⟨5, _⟩ => false | ⟨6, _⟩ => true

/-- What the output tile holds after point `t`: the rows of the documents done so far, on the columns inside the array. -/
def Tile (c : Dev nD) (t : Fin cfg1.N) (X : Vec F S128x2048 .f32) : Prop :=
  ∀ u : Fin cfg1.N, u.val / 128 = t.val / 128 → u.val ≤ t.val → ∀ q : Fin 2048, t.val / 128 * 2048 + q.val < 30522 →
    X (ix2 (docOf u) q) = rowAt V c u (ix2 0 q)

def Rl1 (c : Dev nD) : (w : Fin cfg1.W) → Fin cfg1.N → ((cfg1.win w).block.Idx → Elt F (cfg1.win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => Tile V c t X

/-- The decode region's proof data. -/
def rdat1 (c : Dev nD) : RDat τ (Elt F) Unit ℕ (UR sig nD τ) ℕ cfg1 c := (dat1 V c).toRRel fgt1 (Rl1 V c)

theorem fetch1_6 (t : Fin cfg1.N) : (cfg1.win 6).fetch t = false := rfl

/-- What the output buffer may hold when the body runs at `t`: within a tile, what the previous point left. -/
theorem finds1_6 (c : Dev nD) (t : Fin cfg1.N) (Y : Vec F S128x2048 .f32) (h : (rdat1 V c).Finds 6 t Y)
    (u : Fin cfg1.N) (hu : u.val / 128 = t.val / 128) (hlt : u.val < t.val) (q : Fin 2048) (hq : t.val / 128 * 2048 + q.val < 30522) :
    Y (ix2 (docOf u) q) = rowAt V c u (ix2 0 q) := by
  have ht : t.val ≠ 0 := by omega
  rw [RDat.finds_of_pos _ (fetch1_6 t) ht] at h
  rcases h with h | h
  · rw [flush1_6] at h
    have h' : (t.val - 1) % 128 = 127 := h
    omega
  · have hT : Tile V c ⟨t.val - 1, Nat.lt_of_le_of_lt (Nat.sub_le _ _) t.isLt⟩ Y := (dat1 V c).toRRel_leaves (fgt := fgt1) (Rl := Rl1 V c) (w := 6) rfl h
    have e : (t.val - 1) / 128 = t.val / 128 := by omega
    exact hT u (by show u.val / 128 = (t.val - 1) / 128; omega) (by show u.val ≤ t.val - 1; omega) q (by show (t.val - 1) / 128 * 2048 + q.val < 30522; rw [e]; exact hq)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ Y, ⌜(rdat1 V c).Finds 6 t Y⌝ ∗ owns (c : Thread nD τ) (st1_6 t) fullShare Y))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (∃ d, owns (c : Thread nD τ) (st1_4 t) fullShare ((cfg1.win 4).fill (cfg1.grid.coords t) d ((cfg1.win 4).cut (cfg1.grid.coords t) ((dat1 V c).after 4 t))))
    ∗ (∃ d, owns (c : Thread nD τ) (st1_5 t) fullShare ((cfg1.win 5).fill (cfg1.grid.coords t) d ((cfg1.win 5).cut (cfg1.grid.coords t) ((dat1 V c).after 5 t))))
    ∗ (∃ X, ⌜Tile V c t X⌝ ∗ owns (c : Thread nD τ) (st1_6 t) fullShare X))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have h4 : (cfg1.win 4).cut (cfg1.grid.coords t) (esb V c t) = iblk1 V c 4 t := by unfold esb; rw [Window.cut_fill]
  have h5 : (cfg1.win 5).cut (cfg1.grid.coords t) (bvb V c t) = iblk1 V c 5 t := by unfold bvb; rw [Window.cut_fill]
  rw [h4, h5]
  iintro ⟨HΦ, Ho, ⟨%d0, H0⟩, ⟨%d1, H1⟩, ⟨%d2, H2⟩, ⟨%d3, H3⟩, ⟨%d4, H4⟩, ⟨%d5, H5⟩, ⟨%Y, %hY, H6⟩⟩
  iapply (sound_kernel1 c Set.univ (grid1.coords t) _ _ _ _ _ _ _ _ _ _ _ _ _ _ (iblk1 V c 0 t) (iblk1 V c 1 t) (iblk1 V c 2 t) (iblk1 V c 3 t) ((cfg1.win 4).fill (cfg1.grid.coords t) d4 (iblk1 V c 4 t)) ((cfg1.win 5).fill (cfg1.grid.coords t) d5 (iblk1 V c 5 t)) Y _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, ⟨%X, %hX, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  iexists X
  isplitr
  · ipureintro
    obtain ⟨hX1, hX2⟩ := hX
    have hb : (grid1.coords t 1).val = t.val % 128 := coords1_1 t
    have hd : (⟨(grid1.coords t 1).val, (grid1.coords t 1).isLt⟩ : Fin 128) = docOf t := Fin.ext hb
    intro u hu hle q hq
    by_cases hut : u = t
    · subst hut
      have := hX1 q
      rw [hd] at this
      refine this.trans ?_
      exact k1_pay1_congr _ _ _ _ _ _ _ _ q (fill4_congr u _ _ _ q hq) (fill5_congr u _ _ _ q hq)
    · have hlt : u.val < t.val := lt_of_le_of_ne hle fun e => hut (Fin.ext e)
      rw [hX2 (docOf u) q (by rw [hb]; show u.val % 128 ≠ t.val % 128; omega)]
      exact finds1_6 V c t Y hY u hu hlt q hq
  iexact H6

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : (rdat1 (F := F) V c).BodyObligation (defs₀ (F := F)) Variants.none () Set.univ :=
  Pipeline.BodyObligationRel.toRRel (dat := dat1 V c) fun t => by
    rw [bigSep_W1, bigSep_W1, defs₀_row1]
    exact triple_restated (sound_body1 V c t) rfl .rfl fun _ => .rfl

/-! ## What the arrays hold at the end -/

/-- Two exact data with the same array and the same moved parts at the points that write back leave the same array. -/
theorem arrAt_congr_cut {cfg : Cfg sig Λ₀} {c : Dev nD} (d d' : Dat τ (Elt F) Unit ℕ (UR sig nD τ) ℕ cfg c) (w : Fin cfg.W) (hA : d.A w = d'.A w)
    (h : ∀ u : Fin cfg.N, (cfg.win w).flush u = true → (cfg.win w).cut (cfg.grid.coords u) (d.after w u) = (cfg.win w).cut (cfg.grid.coords u) (d'.after w u)) :
    ∀ n, d.arrAt w n = d'.arrAt w n
  | 0 => hA
  | n + 1 => by
    by_cases hn : n < cfg.N
    · have e := d.arrAt_succ w ⟨n, hn⟩
      have e' := d'.arrAt_succ w ⟨n, hn⟩
      have ih := arrAt_congr_cut d d' w hA h n
      by_cases hf : (cfg.win w).flush ⟨n, hn⟩ = true
      · rw [if_pos hf] at e e'
        rw [show n + 1 = (⟨n, hn⟩ : Fin cfg.N).val + 1 from rfl, e, e']
        show ((cfg.win w).blk ⟨n, hn⟩).view.write _ (d.arrAt w n) ((cfg.win w).cut (cfg.grid.coords ⟨n, hn⟩) (d.after w ⟨n, hn⟩)) Finset.univ
          = ((cfg.win w).blk ⟨n, hn⟩).view.write _ (d'.arrAt w n) ((cfg.win w).cut (cfg.grid.coords ⟨n, hn⟩) (d'.after w ⟨n, hn⟩)) Finset.univ
        rw [ih, h _ hf]
      · rw [if_neg hf] at e e'
        rw [show n + 1 = (⟨n, hn⟩ : Fin cfg.N).val + 1 from rfl, e, e']
        exact ih
    · have hN : cfg.N ≤ n := Nat.not_lt.mp hn
      rw [d.arrAt_stable w (n + 1) (Nat.le_succ_of_le hN), d'.arrAt_stable w (n + 1) (Nat.le_succ_of_le hN), ← d.arrAt_stable w n hN, ← d'.arrAt_stable w n hN]
      exact arrAt_congr_cut d d' w hA h n

/-- The moved part of a written-back tile is that of the full one. -/
theorem cut_tile (c : Dev nD) (t : Fin cfg1.N) (ht : t.val % 128 = 127) (X : Vec F S128x2048 .f32) (hX : Tile V c t X) :
    (cfg1.win 6).cut (cfg1.grid.coords t) X = (cfg1.win 6).cut (cfg1.grid.coords t) (fullTile V c t) := by
  have hN : cfg1.N = 1920 := N_1
  have htl := t.isLt
  funext j
  have h0 : (j 0).val < 128 := Nat.lt_of_lt_of_le (j 0).isLt ((cfg1.win 6).xsize_le (cfg1.grid.coords t) 0)
  have h1 : (j 1).val < 2048 := Nat.lt_of_lt_of_le (j 1).isLt ((cfg1.win 6).xsize_le (cfg1.grid.coords t) 1)
  have hin : t.val / 128 * 2048 + (j 1).val < 30522 := by
    have hi : cc1_transform_6 (grid1.coords t) 1 * 2048 + (Pipeline.Clip.of (cc1_transform_6 (grid1.coords t) 1) 2048 30522).extent 2048 ≤ 30522 :=
      Pipeline.Clip.inb (Pipeline.Clip.ok_of (hstart1_6 (grid1.coords t) 1))
    have hj : (j 1).val < (Pipeline.Clip.of (cc1_transform_6 (grid1.coords t) 1) 2048 30522).extent 2048 := (j 1).isLt
    have e : cc1_transform_6 (grid1.coords t) 1 = (BitVec.ofNat 32 (grid1.coords t 0).val).toNat := rfl
    rw [e, coords1_0, BitVec.toNat_ofNat, Nat.mod_eq_of_lt (by omega)] at hi hj
    omega
  have ej : (cfg1.win 6).xinj (cfg1.grid.coords t) j = (ix2 (⟨(j 0).val, h0⟩ : Fin 128) (⟨(j 1).val, h1⟩ : Fin 2048) : S128x2048.Idx) := by
    funext a
    match a with
    | ⟨0, _⟩ => rfl
    | ⟨1, _⟩ => rfl
  show X ((cfg1.win 6).xinj (cfg1.grid.coords t) j) = fullTile V c t ((cfg1.win 6).xinj (cfg1.grid.coords t) j)
  rw [ej]
  have hu := hX ⟨t.val / 128 * 128 + (j 0).val, by omega⟩ (by show (t.val / 128 * 128 + (j 0).val) / 128 = t.val / 128; omega)
    (by show t.val / 128 * 128 + (j 0).val ≤ t.val; omega) ⟨(j 1).val, h1⟩ hin
  have ed : docOf ⟨t.val / 128 * 128 + (j 0).val, by omega⟩ = (⟨(j 0).val, h0⟩ : Fin 128) :=
    Fin.ext (by show (t.val / 128 * 128 + (j 0).val) % 128 = (j 0).val; omega)
  rw [ed] at hu
  exact hu

theorem isOut1 (w : Fin cfg1.W) (h : w ≠ 6) : (cfg1.win w).isOut = false := by
  match w, h with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, h => exact absurd rfl h

/-- Whatever the region may leave in an array is what the exact data name. -/
theorem arrAt1 (c : Dev nD) (w : Fin cfg1.W) (G) (hG : (rdat1 V c).ArrAt w cfg1.N G) : G = (dat1 V c).arrAt w cfg1.N := by
  obtain ⟨X, hX, hA⟩ := hG.exists_exact
  have e := hA (Function.update (dat1 V c).after w X) fun u _ _ => by rw [Function.update_self]
  rw [e]
  by_cases h6 : w = 6
  · subst h6
    refine arrAt_congr_cut ((rdat1 V c).withAfter (Function.update (dat1 V c).after 6 X)) (dat1 V c) 6 rfl (fun u hf => ?_) _
    have hT : Tile V c u (X u) := (dat1 V c).toRRel_leaves (fgt := fgt1) (Rl := Rl1 V c) (w := 6) rfl (hX u u.isLt hf)
    rw [RDat.withAfter_after, Function.update_self, after1_6]
    exact cut_tile V c u ((flush1_6 u).mp hf) (X u) hT
  · have hi : (cfg1.win w).isOut = false := isOut1 w h6
    rw [Dat.arrAt_in _ w hi, Dat.arrAt_in _ w hi]
    rfl

/-- The region's arrays, at its exit, at the contents the exact data name. -/
theorem arraysAt1 (c : Dev nD) : (rdat1 V c).arraysAt cfg1.N ⊢ ((dat1 V c).arrays ((dat1 V c).arrAt · cfg1.N) : sProp 𝕄) := by
  unfold RDat.arraysAt Dat.arrays
  refine BI.bigSep_mono fun w _ => ?_
  show (iprop(∃ G, ⌜(rdat1 V c).ArrAt w cfg1.N G⌝ ∗ (cfg1.win w).arr.view.loc (c.tc : Thread nD τ) ↦[(cfg1.win w).arr.view.set]{(dat1 V c).share w} G) : sProp 𝕄)
    ⊢ ((cfg1.win w).arr.view.loc (c.tc : Thread nD τ) ↦[(cfg1.win w).arr.view.set]{(dat1 V c).share w} ((dat1 V c).arrAt w cfg1.N) : sProp 𝕄)
  iintro ⟨%G, %hG, H⟩
  rw [arrAt1 V c w G hG]
  iexact H

end Cert.Kernel.Whole

end
-- ==== Proof.K.FinalizeConds.lean ====
/- The finalize call at the contents of the buffers it is entered with: its blocks, and which points take which branch. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the first point only — by arithmetic of the point. -/
theorem hcond2_0 : ∀ t : Fin cfg2.N, cond2_0 (grid2.coords t) ↔ t.val % 4 = 0 :=
  (fun t => by
    have ht : t.val < 4 := Nat.lt_of_lt_of_eq t.isLt N_2
    have e0 : (grid2.coords t 0).val = t.val / 1 % 4 := Pipeline.Grid.coords_val t 0 (by decide) rfl
    simp only [cond2_0, k2_cond1, e0]
    word_cmp
   : ∀ t : Fin grid2.N, cond2_0 (grid2.coords t) ↔ t.val % 4 = 0)

/-- The condition of the body's `scf.if` 1 (`k2_h2`), from the grid coordinates (the skeleton's scalar
    chain substituted). -/
abbrev cond2_1 (i : grid2.Coords) : Prop := k2_cond2 i = 1#1
/-- It holds at the points from point 1 on — decided over the grid. -/
theorem hcond2_1 : ∀ t : Fin cfg2.N, cond2_1 (grid2.coords t) ↔ 1 ≤ t.val :=
  (by decide +kernel : ∀ t : Fin grid2.N, cond2_1 (grid2.coords t) ↔ 1 ≤ t.val)

/-- The condition of the body's `scf.if` 2 (`k2_h3`), from the grid coordinates (the skeleton's scalar
    chain substituted). -/
abbrev cond2_2 (i : grid2.Coords) : Prop := k2_cond3 i = 1#1
/-- It holds at the last point only — by arithmetic of the point. -/
theorem hcond2_2 : ∀ t : Fin cfg2.N, cond2_2 (grid2.coords t) ↔ t.val % 4 = 3 :=
  (fun t => by
    have ht : t.val < 4 := Nat.lt_of_lt_of_eq t.isLt N_2
    have e0 : (grid2.coords t 0).val = t.val / 1 % 4 := Pipeline.Grid.coords_val t 0 (by decide) rfl
    simp only [cond2_2, k2_cond3, e0]
    word_cmp
   : ∀ t : Fin grid2.N, cond2_2 (grid2.coords t) ↔ t.val % 4 = 3)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an output stored at every point, under no condition). -/
theorem liveAt2_1 : ∀ t : Fin cfg2.N, cfg2.idle 1 (grid2.coords t) = false := fun _ => rfl
/-- Window 2 is never idle (an output stored at every point, under no condition). -/
theorem liveAt2_2 : ∀ t : Fin cfg2.N, cfg2.idle 2 (grid2.coords t) = false := fun _ => rfl
/-- Window 5 is never idle (an output stored at every point, under no condition). -/
theorem liveAt2_5 : ∀ t : Fin cfg2.N, cfg2.idle 5 (grid2.coords t) = false := fun _ => rfl
/-- Window 6 is never idle (an output stored at every point, under no condition). -/
theorem liveAt2_6 : ∀ t : Fin cfg2.N, cfg2.idle 6 (grid2.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab2_3_step` checks it against the configuration's own
    step point by point and Lib/Pipeline/TableIdle.lean `Cfg.fresh_tab` makes it `Cfg.fresh` (`fresh2_3_eq`). -/
def freshTab2_3 : ℕ → Bool
  | 0 => true
  | n + 1 => (0x8 : ℕ).testBit n
theorem freshTab2_3_step : ∀ t : Fin cfg2.N,
    freshTab2_3 (t.val + 1) = ((cfg2.win 3).flush t || (cfg2.idle 3 (cfg2.grid.coords t) && freshTab2_3 t.val)) := by decide +kernel
theorem fresh2_3_eq (t : Fin cfg2.N) : cfg2.fresh 3 t.val = freshTab2_3 t.val :=
  Pipeline.Cfg.fresh_tab cfg2 3 freshTab2_3 rfl freshTab2_3_step t.val (Nat.le_of_lt t.isLt)
/-- At the points of case A the printed configuration (`Cfg.idle`) calls output 3 live: the case stores into it. -/
theorem liveAt2_3_A : ∀ t : Fin cfg2.N, cond2_0 (grid2.coords t) → ¬cond2_1 (grid2.coords t) → ¬cond2_2 (grid2.coords t) → cfg2.idle 3 (grid2.coords t) = false := by decide +kernel
/-- At the points of case B the printed configuration (`Cfg.idle`) calls output 3 live: the case stores into it. -/
theorem liveAt2_3_B : ∀ t : Fin cfg2.N, ¬cond2_0 (grid2.coords t) → cond2_1 (grid2.coords t) → ¬cond2_2 (grid2.coords t) → cfg2.idle 3 (grid2.coords t) = false := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab2_3`). -/
theorem notFresh2_3_B : ∀ t : Fin cfg2.N, ¬cond2_0 (grid2.coords t) → cond2_1 (grid2.coords t) → ¬cond2_2 (grid2.coords t) → cfg2.fresh 3 t.val = false := by
  intro t; rw [fresh2_3_eq t]; revert t; decide +kernel
/-- At the points of case C the printed configuration (`Cfg.idle`) calls output 3 live: the case stores into it. -/
theorem liveAt2_3_C : ∀ t : Fin cfg2.N, ¬cond2_0 (grid2.coords t) → cond2_1 (grid2.coords t) → cond2_2 (grid2.coords t) → cfg2.idle 3 (grid2.coords t) = false := by decide +kernel
/-- At the points of case C, which keeps output 3's prior contents (reads it before covering, or covers it in part), the
    window's buffer is not FRESH: something was stored into it since the region's entry or its last write-back, idle points
    between or not (Lib/Pipeline/TableIdle.lean `Cfg.fresh`, by the table `freshTab2_3`). -/
theorem notFresh2_3_C : ∀ t : Fin cfg2.N, ¬cond2_0 (grid2.coords t) → cond2_1 (grid2.coords t) → cond2_2 (grid2.coords t) → cfg2.fresh 3 t.val = false := by
  intro t; rw [fresh2_3_eq t]; revert t; decide +kernel
/-- At the points of case A the printed configuration (`Cfg.idle`) calls output 4 idle: the case stores nothing into it. -/
theorem idleAt2_4_A : ∀ t : Fin cfg2.N, cond2_0 (grid2.coords t) → ¬cond2_1 (grid2.coords t) → ¬cond2_2 (grid2.coords t) → cfg2.idle 4 (grid2.coords t) = true := by decide +kernel
/-- At the points of case A the pipeline does not write output 4's block back. -/
theorem noFlush2_4_A : ∀ t : Fin cfg2.N, cond2_0 (grid2.coords t) → ¬cond2_1 (grid2.coords t) → ¬cond2_2 (grid2.coords t) → (cfg2.win 4).flush t = false := by decide +kernel
/-- At the points of case B the printed configuration (`Cfg.idle`) calls output 4 idle: the case stores nothing into it. -/
theorem idleAt2_4_B : ∀ t : Fin cfg2.N, ¬cond2_0 (grid2.coords t) → cond2_1 (grid2.coords t) → ¬cond2_2 (grid2.coords t) → cfg2.idle 4 (grid2.coords t) = true := by decide +kernel
/-- At the points of case B the pipeline does not write output 4's block back. -/
theorem noFlush2_4_B : ∀ t : Fin cfg2.N, ¬cond2_0 (grid2.coords t) → cond2_1 (grid2.coords t) → ¬cond2_2 (grid2.coords t) → (cfg2.win 4).flush t = false := by decide +kernel
/-- At the points of case C the printed configuration (`Cfg.idle`) calls output 4 live: the case stores into it. -/
theorem liveAt2_4_C : ∀ t : Fin cfg2.N, ¬cond2_0 (grid2.coords t) → cond2_1 (grid2.coords t) → cond2_2 (grid2.coords t) → cfg2.idle 4 (grid2.coords t) = false := by decide +kernel

/-! ## The kernel body on any staging memrefs: a subtype the run finds -/

/-- One staging buffer of output window 1, through which its contents are stated (`View.read_writes_of_cover`: the
    choice does not matter). -/
abbrev VO2_1 : View sig .tc .vmem S32x30522 .f32 := (Memref.whole cc2_stg1_0 : Memref sig .tc .vmem S32x30522 .f32).view
/-- One staging buffer of output window 2, through which its contents are stated (`View.read_writes_of_cover`: the
    choice does not matter). -/
abbrev VO2_2 : View sig .tc .vmem S32x128 .f32 := (Memref.whole cc2_stg2_0 : Memref sig .tc .vmem S32x128 .f32).view
/-- One staging buffer of output window 3, through which its contents are stated (`View.read_writes_of_cover`: the
    choice does not matter). -/
abbrev VO2_3 : View sig .tc .vmem S1x30522 .f32 := (Memref.whole cc2_stg3_0 : Memref sig .tc .vmem S1x30522 .f32).view
/-- One staging buffer of output window 4, through which its contents are stated (`View.read_writes_of_cover`: the
    choice does not matter). -/
abbrev VO2_4 : View sig .tc .vmem S1x128 .f32 := (Memref.whole cc2_stg4_0 : Memref sig .tc .vmem S1x128 .f32).view
/-- One staging buffer of output window 5, through which its contents are stated (`View.read_writes_of_cover`: the
    choice does not matter). -/
abbrev VO2_5 : View sig .tc .vmem S32x30522 .i8 := (Memref.whole cc2_stg5_0 : Memref sig .tc .vmem S32x30522 .i8).view
/-- One staging buffer of output window 6, through which its contents are stated (`View.read_writes_of_cover`: the
    choice does not matter). -/
abbrev VO2_6 : View sig .tc .vmem S32x128 .f32 := (Memref.whole cc2_stg6_0 : Memref sig .tc .vmem S32x128 .f32).view
/-- Each window's current staging memref at point `t`, spelled as the pipeline passes it (`bodyAt2`), and its wholeness. -/
abbrev ms2_0 (t : Fin cfg2.N) : Memref sig .tc .vmem S32x30522 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S32x30522 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x30522 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S32x30522 .i8 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S32x128 .f32 := win2_6.stage (cfg2.slots t 6)
abbrev hs2_6 (t : Fin cfg2.N) : (ms2_6 t).IsWhole := hstage2_6 ((cfg2.slots t 6).cast nbuf2_6)

end Cert.Kernel.Whole

end
-- ==== Proof.K.FinalizeRunA.lean ====
/- The body of the finalize call at the first point(s) of its grid. -/
module

public import proofs.«01_k».proof.Proof.K.FinalizeConds

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (4: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) :
    Σ' (L1 : List (View.Piece (Elt F) S32x30522 .f32)), Σ' (L2 : List (View.Piece (Elt F) S32x128 .f32)), Σ' (L3 : List (View.Piece (Elt F) S1x30522 .f32)), Σ' (L4 : List (View.Piece (Elt F) S1x128 .f32)), Σ' (L5 : List (View.Piece (Elt F) S32x30522 .i8)), { L6 : List (View.Piece (Elt F) S32x128 .f32) //
      ∀ (xi4 : Vec F S1x128 .f32) (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc2_finalize i arg1 harg1 arg2 harg2 arg3 harg3 arg4 harg4 arg5 harg5 arg6 harg6 arg7 harg7) K } := by
  refine ⟨?_, ?_, ?_, [], ?_, ?_, fun xi4 E K => ?run⟩
  case run =>
    simp only [cc2_finalize_eq_skeleton]; unfold cc2_finalize_skel
    simp only [k2_part1_eq_skeleton]
    unfold owns
    iintro ⟨⟨%f0, %hf0, H0⟩, ⟨%d1, %f1, -, H1⟩, ⟨%d2, %f2, -, H2⟩, ⟨%d3, %f3, -, H3⟩, ⟨%f4, %hf4, H4⟩, ⟨%d5, %f5, -, H5⟩, ⟨%d6, %f6, -, H6⟩, Hk⟩
    obtain rfl := harg1.eq_unread hf0; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]
    · iexists _; isplitr; · ipureintro; exact harg5.read_unread _
      iexact H4
    isplitl [H5]; · iexists _; iexact H5
    iexists _; iexact H6

end Cert.Kernel.Whole

end
-- ==== Proof.K.FinalizeRunB.lean ====
/- The body of the finalize call at the middle point(s) of its grid. -/
module

public import proofs.«01_k».proof.Proof.K.FinalizeRunA

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2), WITH the
    proof that on whole staging memrefs — the inputs' at their contents, the outputs it reads before covering (3) at their running contents `xo·`, the outputs it leaves idle (4: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) :
    Σ' (L1 : List (View.Piece (Elt F) S32x30522 .f32)), Σ' (L2 : List (View.Piece (Elt F) S32x128 .f32)), Σ' (L3 : List (View.Piece (Elt F) S1x30522 .f32)), Σ' (L4 : List (View.Piece (Elt F) S1x128 .f32)), Σ' (L5 : List (View.Piece (Elt F) S32x30522 .i8)), { L6 : List (View.Piece (Elt F) S32x128 .f32) //
      ∀ (xi4 : Vec F S1x128 .f32) (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xo3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc2_finalize i arg1 harg1 arg2 harg2 arg3 harg3 arg4 harg4 arg5 harg5 arg6 harg6 arg7 harg7) K } := by
  refine ⟨?_, ?_, ?_, [], ?_, ?_, fun xi4 E K => ?run⟩
  case run =>
    simp only [cc2_finalize_eq_skeleton]; unfold cc2_finalize_skel
    simp only [k2_part1_eq_skeleton]
    unfold owns
    iintro ⟨⟨%f0, %hf0, H0⟩, ⟨%d1, %f1, -, H1⟩, ⟨%d2, %f2, -, H2⟩, ⟨%f3, %hf3, H3⟩, ⟨%f4, %hf4, H4⟩, ⟨%d5, %f5, -, H5⟩, ⟨%d6, %f6, -, H6⟩, Hk⟩
    obtain rfl := harg1.eq_unread hf0; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]
    · iexists _; isplitr; · ipureintro; exact harg5.read_unread _
      iexact H4
    isplitl [H5]; · iexists _; iexact H5
    iexists _; iexact H6

end Cert.Kernel.Whole

end
-- ==== Proof.K.FinalizeRunC.lean ====
/- The body of the finalize call at the last point(s) of its grid. -/
module

public import proofs.«01_k».proof.Proof.K.FinalizeRunB

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 3), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) :
    Σ' (L1 : List (View.Piece (Elt F) S32x30522 .f32)), Σ' (L2 : List (View.Piece (Elt F) S32x128 .f32)), Σ' (L3 : List (View.Piece (Elt F) S1x30522 .f32)), Σ' (L4 : List (View.Piece (Elt F) S1x128 .f32)), Σ' (L5 : List (View.Piece (Elt F) S32x30522 .i8)), { L6 : List (View.Piece (Elt F) S32x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xo3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc2_finalize i arg1 harg1 arg2 harg2 arg3 harg3 arg4 harg4 arg5 harg5 arg6 harg6 arg7 harg7) K } := by
  refine ⟨?_, ?_, ?_, ?_, ?_, ?_, fun E K => ?run⟩
  case run =>
    simp only [cc2_finalize_eq_skeleton]; unfold cc2_finalize_skel
    simp only [k2_part1_eq_skeleton]
    unfold owns
    iintro ⟨⟨%f0, %hf0, H0⟩, ⟨%d1, %f1, -, H1⟩, ⟨%d2, %f2, -, H2⟩, ⟨%f3, %hf3, H3⟩, ⟨%d4, %f4, -, H4⟩, ⟨%d5, %f5, -, H5⟩, ⟨%d6, %f6, -, H6⟩, Hk⟩
    obtain rfl := harg1.eq_unread hf0; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6

end Cert.Kernel.Whole

end
-- ==== Proof.K.Finalize.lean ====
/- The finalize call at the contents of the buffers it is entered with: what its outputs hold point by point, and that its body runs at every grid point. -/
module

public import proofs.«01_k».proof.Proof.K.FinalizeRunC
public import Idealize.ShloMosaic.Lib.Claim

@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

/-- Case A's pieces for output 1 tile its block (1 store of `S32x30522`, checked by the kernel's evaluation: Lib/Ring.lean `Piece.tiledL`, linear in the pieces, through a loop's `@[irreducible]` trip theorem too), so they cover it. -/
theorem cover2_A_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) (y : S32x30522.Idx) :
    ∃ pc ∈ (kernelRun2_A c i arg1 harg1 arg2 harg2 arg3 harg3 arg4 harg4 arg5 harg5 arg6 harg6 arg7 harg7 hc0 hc1 hc2 x0).1, y ∈ pc.1.set :=
  View.cover_of_tiledL (kernelRun2_A c i arg1 harg1 arg2 harg2 arg3 harg3 arg4 harg4 arg5 harg5 arg6 harg6 arg7 harg7 hc0 hc1 hc2 x0).1 S32x30522.size (by sl_kernel_rfl) y

/-- What case A leaves in output 1's staging buffer: its pieces read back over junk. -/
def out2_A_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S32x30522 .f32 :=
  VO2_1.read (Elt F) (VO2_1.writes (Elt F) VO2_1.junk (kernelRun2_A c i arg1 harg1 arg2 harg2 arg3 harg3 arg4 harg4 arg5 harg5 arg6 harg6 arg7 harg7 hc0 hc1 hc2 x0).1)

/-- Case A's pieces for output 2 tile its block (1 store of `S32x128`, checked by the kernel's evaluation: Lib/Ring.lean `Piece.tiledL`, linear in the pieces, through a loop's `@[irreducible]` trip theorem too), so they cover it. -/
theorem cover2_A_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) (y : S32x128.Idx) :
    ∃ pc ∈ (kernelRun2_A c i arg1 harg1 arg2 harg2 arg3 harg3 arg4 harg4 arg5 harg5 arg6 harg6 arg7 harg7 hc0 hc1 hc2 x0).2.1, y ∈ pc.1.set :=
  View.cover_of_tiledL (kernelRun2_A c i arg1 harg1 arg2 harg2 arg3 harg3 arg4 harg4 arg5 harg5 arg6 harg6 arg7 harg7 hc0 hc1 hc2 x0).2.1 S32x128.size (by sl_kernel_rfl) y

/-- What case A leaves in output 2's staging buffer: its pieces read back over junk. -/
def out2_A_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S32x128 .f32 :=
  VO2_2.read (Elt F) (VO2_2.writes (Elt F) VO2_2.junk (kernelRun2_A c i arg1 harg1 arg2 harg2 arg3 harg3 arg4 harg4 arg5 harg5 arg6 harg6 arg7 harg7 hc0 hc1 hc2 x0).2.1)

/-- Case A's pieces for output 3 tile its block (1 store of `S1x30522`, checked by the kernel's evaluation: Lib/Ring.lean `Piece.tiledL`, linear in the pieces, through a loop's `@[irreducible]` trip theorem too), so they cover it. -/
theorem cover2_A_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) (y : S1x30522.Idx) :
    ∃ pc ∈ (kernelRun2_A c i arg1 harg1 arg2 harg2 arg3 harg3 arg4 harg4 arg5 harg5 arg6 harg6 arg7 harg7 hc0 hc1 hc2 x0).2.2.1, y ∈ pc.1.set :=
  View.cover_of_tiledL (kernelRun2_A c i arg1 harg1 arg2 harg2 arg3 harg3 arg4 harg4 arg5 harg5 arg6 harg6 arg7 harg7 hc0 hc1 hc2 x0).2.2.1 S1x30522.size (by sl_kernel_rfl) y

/-- What case A leaves in output 3's staging buffer: its pieces read back over junk. -/
def out2_A_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S1x30522 .f32 :=
  VO2_3.read (Elt F) (VO2_3.writes (Elt F) VO2_3.junk (kernelRun2_A c i arg1 harg1 arg2 harg2 arg3 harg3 arg4 harg4 arg5 harg5 arg6 harg6 arg7 harg7 hc0 hc1 hc2 x0).2.2.1)

/-- Case A stores nothing into output 4 (the window is idle at its points and not written back there):
    no pieces — a placeholder (junk read back) that nothing consults, since at these points the window is neither
    written back nor read at the next point (Lib/Pipeline.lean "Idle points"). -/
def out2_A_4 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S1x128 .f32 :=
  VO2_4.read (Elt F) (VO2_4.writes (Elt F) VO2_4.junk (kernelRun2_A c i arg1 harg1 arg2 harg2 arg3 harg3 arg4 harg4 arg5 harg5 arg6 harg6 arg7 harg7 hc0 hc1 hc2 x0).2.2.2.1)

/-- Case A's pieces for output 5 tile its block (1 store of `S32x30522`, checked by the kernel's evaluation: Lib/Ring.lean `Piece.tiledL`, linear in the pieces, through a loop's `@[irreducible]` trip theorem too), so they cover it. -/
theorem cover2_A_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) (y : S32x30522.Idx) :
    ∃ pc ∈ (kernelRun2_A c i arg1 harg1 arg2 harg2 arg3 harg3 arg4 harg4 arg5 harg5 arg6 harg6 arg7 harg7 hc0 hc1 hc2 x0).2.2.2.2.1, y ∈ pc.1.set :=
  View.cover_of_tiledL (kernelRun2_A c i arg1 harg1 arg2 harg2 arg3 harg3 arg4 harg4 arg5 harg5 arg6 harg6 arg7 harg7 hc0 hc1 hc2 x0).2.2.2.2.1 S32x30522.size (by sl_kernel_rfl) y

/-- What case A leaves in output 5's staging buffer: its pieces read back over junk. -/
def out2_A_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S32x30522 .i8 :=
  VO2_5.read (Elt F) (VO2_5.writes (Elt F) VO2_5.junk (kernelRun2_A c i arg1 harg1 arg2 harg2 arg3 harg3 arg4 harg4 arg5 harg5 arg6 harg6 arg7 harg7 hc0 hc1 hc2 x0).2.2.2.2.1)

/-- Case A's pieces for output 6 tile its block (1 store of `S32x128`, checked by the kernel's evaluation: Lib/Ring.lean `Piece.tiledL`, linear in the pieces, through a loop's `@[irreducible]` trip theorem too), so they cover it. -/
theorem cover2_A_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) (y : S32x128.Idx) :
    ∃ pc ∈ (kernelRun2_A c i arg1 harg1 arg2 harg2 arg3 harg3 arg4 harg4 arg5 harg5 arg6 harg6 arg7 harg7 hc0 hc1 hc2 x0).2.2.2.2.2.1, y ∈ pc.1.set :=
  View.cover_of_tiledL (kernelRun2_A c i arg1 harg1 arg2 harg2 arg3 harg3 arg4 harg4 arg5 harg5 arg6 harg6 arg7 harg7 hc0 hc1 hc2 x0).2.2.2.2.2.1 S32x128.size (by sl_kernel_rfl) y

/-- What case A leaves in output 6's staging buffer: its pieces read back over junk. -/
def out2_A_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S32x128 .f32 :=
  VO2_6.read (Elt F) (VO2_6.writes (Elt F) VO2_6.junk (kernelRun2_A c i arg1 harg1 arg2 harg2 arg3 harg3 arg4 harg4 arg5 harg5 arg6 harg6 arg7 harg7 hc0 hc1 hc2 x0).2.2.2.2.2.1)

/-- Case B's pieces for output 1 tile its block (1 store of `S32x30522`, checked by the kernel's evaluation: Lib/Ring.lean `Piece.tiledL`, linear in the pieces, through a loop's `@[irreducible]` trip theorem too), so they cover it. -/
theorem cover2_B_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) (y : S32x30522.Idx) :
    ∃ pc ∈ (kernelRun2_B c i arg1 harg1 arg2 harg2 arg3 harg3 arg4 harg4 arg5 harg5 arg6 harg6 arg7 harg7 hc0 hc1 hc2 x0 xo3).1, y ∈ pc.1.set :=
  View.cover_of_tiledL (kernelRun2_B c i arg1 harg1 arg2 harg2 arg3 harg3 arg4 harg4 arg5 harg5 arg6 harg6 arg7 harg7 hc0 hc1 hc2 x0 xo3).1 S32x30522.size (by sl_kernel_rfl) y

/-- What case B leaves in output 1's staging buffer: its pieces read back over junk. -/
def out2_B_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S32x30522 .f32 :=
  VO2_1.read (Elt F) (VO2_1.writes (Elt F) VO2_1.junk (kernelRun2_B c i arg1 harg1 arg2 harg2 arg3 harg3 arg4 harg4 arg5 harg5 arg6 harg6 arg7 harg7 hc0 hc1 hc2 x0 xo3).1)

/-- Case B's pieces for output 2 tile its block (1 store of `S32x128`, checked by the kernel's evaluation: Lib/Ring.lean `Piece.tiledL`, linear in the pieces, through a loop's `@[irreducible]` trip theorem too), so they cover it. -/
theorem cover2_B_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) (y : S32x128.Idx) :
    ∃ pc ∈ (kernelRun2_B c i arg1 harg1 arg2 harg2 arg3 harg3 arg4 harg4 arg5 harg5 arg6 harg6 arg7 harg7 hc0 hc1 hc2 x0 xo3).2.1, y ∈ pc.1.set :=
  View.cover_of_tiledL (kernelRun2_B c i arg1 harg1 arg2 harg2 arg3 harg3 arg4 harg4 arg5 harg5 arg6 harg6 arg7 harg7 hc0 hc1 hc2 x0 xo3).2.1 S32x128.size (by sl_kernel_rfl) y

/-- What case B leaves in output 2's staging buffer: its pieces read back over junk. -/
def out2_B_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S32x128 .f32 :=
  VO2_2.read (Elt F) (VO2_2.writes (Elt F) VO2_2.junk (kernelRun2_B c i arg1 harg1 arg2 harg2 arg3 harg3 arg4 harg4 arg5 harg5 arg6 harg6 arg7 harg7 hc0 hc1 hc2 x0 xo3).2.1)

/-- Case B's pieces for output 3 tile its block (1 store of `S1x30522`, checked by the kernel's evaluation: Lib/Ring.lean `Piece.tiledL`, linear in the pieces, through a loop's `@[irreducible]` trip theorem too), so they cover it. -/
theorem cover2_B_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) (y : S1x30522.Idx) :
    ∃ pc ∈ (kernelRun2_B c i arg1 harg1 arg2 harg2 arg3 harg3 arg4 harg4 arg5 harg5 arg6 harg6 arg7 harg7 hc0 hc1 hc2 x0 xo3).2.2.1, y ∈ pc.1.set :=
  View.cover_of_tiledL (kernelRun2_B c i arg1 harg1 arg2 harg2 arg3 harg3 arg4 harg4 arg5 harg5 arg6 harg6 arg7 harg7 hc0 hc1 hc2 x0 xo3).2.2.1 S1x30522.size (by sl_kernel_rfl) y

/-- What case B leaves in output 3's staging buffer: its pieces read back over junk. -/
def out2_B_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S1x30522 .f32 :=
  VO2_3.read (Elt F) (VO2_3.writes (Elt F) VO2_3.junk (kernelRun2_B c i arg1 harg1 arg2 harg2 arg3 harg3 arg4 harg4 arg5 harg5 arg6 harg6 arg7 harg7 hc0 hc1 hc2 x0 xo3).2.2.1)

/-- Case B stores nothing into output 4 (the window is idle at its points and not written back there):
    no pieces — a placeholder (junk read back) that nothing consults, since at these points the window is neither
    written back nor read at the next point (Lib/Pipeline.lean "Idle points"). -/
def out2_B_4 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S1x128 .f32 :=
  VO2_4.read (Elt F) (VO2_4.writes (Elt F) VO2_4.junk (kernelRun2_B c i arg1 harg1 arg2 harg2 arg3 harg3 arg4 harg4 arg5 harg5 arg6 harg6 arg7 harg7 hc0 hc1 hc2 x0 xo3).2.2.2.1)

/-- Case B's pieces for output 5 tile its block (1 store of `S32x30522`, checked by the kernel's evaluation: Lib/Ring.lean `Piece.tiledL`, linear in the pieces, through a loop's `@[irreducible]` trip theorem too), so they cover it. -/
theorem cover2_B_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) (y : S32x30522.Idx) :
    ∃ pc ∈ (kernelRun2_B c i arg1 harg1 arg2 harg2 arg3 harg3 arg4 harg4 arg5 harg5 arg6 harg6 arg7 harg7 hc0 hc1 hc2 x0 xo3).2.2.2.2.1, y ∈ pc.1.set :=
  View.cover_of_tiledL (kernelRun2_B c i arg1 harg1 arg2 harg2 arg3 harg3 arg4 harg4 arg5 harg5 arg6 harg6 arg7 harg7 hc0 hc1 hc2 x0 xo3).2.2.2.2.1 S32x30522.size (by sl_kernel_rfl) y

/-- What case B leaves in output 5's staging buffer: its pieces read back over junk. -/
def out2_B_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S32x30522 .i8 :=
  VO2_5.read (Elt F) (VO2_5.writes (Elt F) VO2_5.junk (kernelRun2_B c i arg1 harg1 arg2 harg2 arg3 harg3 arg4 harg4 arg5 harg5 arg6 harg6 arg7 harg7 hc0 hc1 hc2 x0 xo3).2.2.2.2.1)

/-- Case B's pieces for output 6 tile its block (1 store of `S32x128`, checked by the kernel's evaluation: Lib/Ring.lean `Piece.tiledL`, linear in the pieces, through a loop's `@[irreducible]` trip theorem too), so they cover it. -/
theorem cover2_B_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) (y : S32x128.Idx) :
    ∃ pc ∈ (kernelRun2_B c i arg1 harg1 arg2 harg2 arg3 harg3 arg4 harg4 arg5 harg5 arg6 harg6 arg7 harg7 hc0 hc1 hc2 x0 xo3).2.2.2.2.2.1, y ∈ pc.1.set :=
  View.cover_of_tiledL (kernelRun2_B c i arg1 harg1 arg2 harg2 arg3 harg3 arg4 harg4 arg5 harg5 arg6 harg6 arg7 harg7 hc0 hc1 hc2 x0 xo3).2.2.2.2.2.1 S32x128.size (by sl_kernel_rfl) y

/-- What case B leaves in output 6's staging buffer: its pieces read back over junk. -/
def out2_B_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S32x128 .f32 :=
  VO2_6.read (Elt F) (VO2_6.writes (Elt F) VO2_6.junk (kernelRun2_B c i arg1 harg1 arg2 harg2 arg3 harg3 arg4 harg4 arg5 harg5 arg6 harg6 arg7 harg7 hc0 hc1 hc2 x0 xo3).2.2.2.2.2.1)

/-- Case C's pieces for output 1 tile its block (1 store of `S32x30522`, checked by the kernel's evaluation: Lib/Ring.lean `Piece.tiledL`, linear in the pieces, through a loop's `@[irreducible]` trip theorem too), so they cover it. -/
theorem cover2_C_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S32x30522.Idx) :
    ∃ pc ∈ (kernelRun2_C c i arg1 harg1 arg2 harg2 arg3 harg3 arg4 harg4 arg5 harg5 arg6 harg6 arg7 harg7 hc0 hc1 hc2 x0 xo3).1, y ∈ pc.1.set :=
  View.cover_of_tiledL (kernelRun2_C c i arg1 harg1 arg2 harg2 arg3 harg3 arg4 harg4 arg5 harg5 arg6 harg6 arg7 harg7 hc0 hc1 hc2 x0 xo3).1 S32x30522.size (by sl_kernel_rfl) y

/-- What case C leaves in output 1's staging buffer: its pieces read back over junk. -/
def out2_C_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S32x30522 .f32 :=
  VO2_1.read (Elt F) (VO2_1.writes (Elt F) VO2_1.junk (kernelRun2_C c i arg1 harg1 arg2 harg2 arg3 harg3 arg4 harg4 arg5 harg5 arg6 harg6 arg7 harg7 hc0 hc1 hc2 x0 xo3).1)

/-- Case C's pieces for output 2 tile its block (1 store of `S32x128`, checked by the kernel's evaluation: Lib/Ring.lean `Piece.tiledL`, linear in the pieces, through a loop's `@[irreducible]` trip theorem too), so they cover it. -/
theorem cover2_C_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S32x128.Idx) :
    ∃ pc ∈ (kernelRun2_C c i arg1 harg1 arg2 harg2 arg3 harg3 arg4 harg4 arg5 harg5 arg6 harg6 arg7 harg7 hc0 hc1 hc2 x0 xo3).2.1, y ∈ pc.1.set :=
  View.cover_of_tiledL (kernelRun2_C c i arg1 harg1 arg2 harg2 arg3 harg3 arg4 harg4 arg5 harg5 arg6 harg6 arg7 harg7 hc0 hc1 hc2 x0 xo3).2.1 S32x128.size (by sl_kernel_rfl) y

/-- What case C leaves in output 2's staging buffer: its pieces read back over junk. -/
def out2_C_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S32x128 .f32 :=
  VO2_2.read (Elt F) (VO2_2.writes (Elt F) VO2_2.junk (kernelRun2_C c i arg1 harg1 arg2 harg2 arg3 harg3 arg4 harg4 arg5 harg5 arg6 harg6 arg7 harg7 hc0 hc1 hc2 x0 xo3).2.1)

/-- Case C's pieces for output 3 tile its block (2 stores of `S1x30522`, checked by the kernel's evaluation: Lib/Ring.lean `Piece.tiledL`, linear in the pieces, through a loop's `@[irreducible]` trip theorem too), so they cover it. -/
theorem cover2_C_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S1x30522.Idx) :
    ∃ pc ∈ (kernelRun2_C c i arg1 harg1 arg2 harg2 arg3 harg3 arg4 harg4 arg5 harg5 arg6 harg6 arg7 harg7 hc0 hc1 hc2 x0 xo3).2.2.1, y ∈ pc.1.set :=
  View.cover_of_tiledL (kernelRun2_C c i arg1 harg1 arg2 harg2 arg3 harg3 arg4 harg4 arg5 harg5 arg6 harg6 arg7 harg7 hc0 hc1 hc2 x0 xo3).2.2.1 S1x30522.size (by sl_kernel_rfl) y

/-- What case C leaves in output 3's staging buffer: its pieces read back over junk. -/
def out2_C_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S1x30522 .f32 :=
  VO2_3.read (Elt F) (VO2_3.writes (Elt F) VO2_3.junk (kernelRun2_C c i arg1 harg1 arg2 harg2 arg3 harg3 arg4 harg4 arg5 harg5 arg6 harg6 arg7 harg7 hc0 hc1 hc2 x0 xo3).2.2.1)

/-- Case C's pieces for output 4 tile its block (1 store of `S1x128`, checked by the kernel's evaluation: Lib/Ring.lean `Piece.tiledL`, linear in the pieces, through a loop's `@[irreducible]` trip theorem too), so they cover it. -/
theorem cover2_C_4 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S1x128.Idx) :
    ∃ pc ∈ (kernelRun2_C c i arg1 harg1 arg2 harg2 arg3 harg3 arg4 harg4 arg5 harg5 arg6 harg6 arg7 harg7 hc0 hc1 hc2 x0 xo3).2.2.2.1, y ∈ pc.1.set :=
  View.cover_of_tiledL (kernelRun2_C c i arg1 harg1 arg2 harg2 arg3 harg3 arg4 harg4 arg5 harg5 arg6 harg6 arg7 harg7 hc0 hc1 hc2 x0 xo3).2.2.2.1 S1x128.size (by sl_kernel_rfl) y

/-- What case C leaves in output 4's staging buffer: its pieces read back over junk. -/
def out2_C_4 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 hc0 hc1 hc2 x0 xo3).2.2.2.1)

/-- Case C's pieces for output 5 tile its block (1 store of `S32x30522`, checked by the kernel's evaluation: Lib/Ring.lean `Piece.tiledL`, linear in the pieces, through a loop's `@[irreducible]` trip theorem too), so they cover it. -/
theorem cover2_C_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S32x30522.Idx) :
    ∃ pc ∈ (kernelRun2_C c i arg1 harg1 arg2 harg2 arg3 harg3 arg4 harg4 arg5 harg5 arg6 harg6 arg7 harg7 hc0 hc1 hc2 x0 xo3).2.2.2.2.1, y ∈ pc.1.set :=
  View.cover_of_tiledL (kernelRun2_C c i arg1 harg1 arg2 harg2 arg3 harg3 arg4 harg4 arg5 harg5 arg6 harg6 arg7 harg7 hc0 hc1 hc2 x0 xo3).2.2.2.2.1 S32x30522.size (by sl_kernel_rfl) y

/-- What case C leaves in output 5's staging buffer: its pieces read back over junk. -/
def out2_C_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S32x30522 .i8 :=
  VO2_5.read (Elt F) (VO2_5.writes (Elt F) VO2_5.junk (kernelRun2_C c i arg1 harg1 arg2 harg2 arg3 harg3 arg4 harg4 arg5 harg5 arg6 harg6 arg7 harg7 hc0 hc1 hc2 x0 xo3).2.2.2.2.1)

/-- Case C's pieces for output 6 tile its block (1 store of `S32x128`, checked by the kernel's evaluation: Lib/Ring.lean `Piece.tiledL`, linear in the pieces, through a loop's `@[irreducible]` trip theorem too), so they cover it. -/
theorem cover2_C_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S32x128.Idx) :
    ∃ pc ∈ (kernelRun2_C c i arg1 harg1 arg2 harg2 arg3 harg3 arg4 harg4 arg5 harg5 arg6 harg6 arg7 harg7 hc0 hc1 hc2 x0 xo3).2.2.2.2.2.1, y ∈ pc.1.set :=
  View.cover_of_tiledL (kernelRun2_C c i arg1 harg1 arg2 harg2 arg3 harg3 arg4 harg4 arg5 harg5 arg6 harg6 arg7 harg7 hc0 hc1 hc2 x0 xo3).2.2.2.2.2.1 S32x128.size (by sl_kernel_rfl) y

/-- What case C leaves in output 6's staging buffer: its pieces read back over junk. -/
def out2_C_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S32x128 .f32 :=
  VO2_6.read (Elt F) (VO2_6.writes (Elt F) VO2_6.junk (kernelRun2_C c i arg1 harg1 arg2 harg2 arg3 harg3 arg4 harg4 arg5 harg5 arg6 harg6 arg7 harg7 hc0 hc1 hc2 x0 xo3).2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S32x30522 .f32 × Vec F S32x128 .f32 × Vec F S1x30522 .f32 × Vec F S1x128 .f32 × Vec F S32x30522 .i8 × Vec F S32x128 .f32
  | 0, hn => (out2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩))
  | n + 1, hn =>
    if h0 : (n + 1) % 4 = 0 then
      if h1 : 1 ≤ (n + 1) then
        False.elim (by have hN : n + 1 < 4 := lt_of_lt_of_eq hn (show cfg2.N = 4 from N_2); omega)
      else
        if h2 : (n + 1) % 4 = 3 then
          False.elim (by have hN : n + 1 < 4 := lt_of_lt_of_eq hn (show cfg2.N = 4 from N_2); omega)
        else
          (out2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩))
    else
      if h1 : 1 ≤ (n + 1) then
        if h2 : (n + 1) % 4 = 3 then
          (out2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1, out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1, out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1)
        else
          (out2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1, out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1, out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1)
      else
        False.elim (by have hN : n + 1 < 4 := lt_of_lt_of_eq hn (show cfg2.N = 4 from N_2); omega)

/-- `outsAt2` at a point of case A: that case's contents. -/
theorem outsAt2_A (c : Dev nD) (t : Fin cfg2.N) (h0 : t.val % 4 = 0) (h1 : ¬1 ≤ t.val) (h2 : ¬t.val % 4 = 3) :
    outsAt2 V c t.val t.isLt = (out2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t), out2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t), out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t), out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t)) := by
  obtain ⟨n, hn⟩ := t
  cases n with
  | zero => exact rfl
  | succ n => exact (dif_pos h0).trans ((dif_neg h1).trans ((dif_neg h2).trans rfl))

/-- `outsAt2` at a point of case B: that case's contents, over what the point before left. -/
theorem outsAt2_B (c : Dev nD) (t : Fin cfg2.N) (h0 : ¬t.val % 4 = 0) (h1 : 1 ≤ t.val) (h2 : ¬t.val % 4 = 3) :
    outsAt2 V c t.val t.isLt = (out2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1, out2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1, out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1, out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt2` at a point of case C: that case's contents, over what the point before left. -/
theorem outsAt2_C (c : Dev nD) (t : Fin cfg2.N) (h0 : ¬t.val % 4 = 0) (h1 : 1 ≤ t.val) (h2 : t.val % 4 = 3) :
    outsAt2 V c t.val t.isLt = (out2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1, out2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1, out2_C_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1, out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-! ## The pipeline's proof data -/

/-- The proof data of the one pipeline on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
    | ⟨2, _⟩ => (outsAt2 V c t.val t.isLt).2.1
    | ⟨3, _⟩ => (outsAt2 V c t.val t.isLt).2.2.1
    | ⟨4, _⟩ => (outsAt2 V c t.val t.isLt).2.2.2.1
    | ⟨5, _⟩ => (outsAt2 V c t.val t.isLt).2.2.2.2.1
    | ⟨6, _⟩ => (outsAt2 V c t.val t.isLt).2.2.2.2.2
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem after2_2 (c : Dev nD) (t : Fin cfg2.N) : (dat2 V c).after 2 t = (outsAt2 V c t.val t.isLt).2.1 := by dsimp only [dat2]
theorem after2_3 (c : Dev nD) (t : Fin cfg2.N) : (dat2 V c).after 3 t = (outsAt2 V c t.val t.isLt).2.2.1 := by dsimp only [dat2]
theorem after2_4 (c : Dev nD) (t : Fin cfg2.N) : (dat2 V c).after 4 t = (outsAt2 V c t.val t.isLt).2.2.2.1 := by dsimp only [dat2]
theorem after2_5 (c : Dev nD) (t : Fin cfg2.N) : (dat2 V c).after 5 t = (outsAt2 V c t.val t.isLt).2.2.2.2.1 := by dsimp only [dat2]
theorem after2_6 (c : Dev nD) (t : Fin cfg2.N) : (dat2 V c).after 6 t = (outsAt2 V c t.val t.isLt).2.2.2.2.2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d

/-- Output 3's contents CARRY through the points that leave it idle: at such a point, its buffer not fresh, the proof data's
    `after` is the point before's (the case there stores nothing into the window and its term says so; a case that stores
    into it is not idle there by `liveAt2_3_κ`) — the hypothesis of Lib/Pipeline/TableIdle.lean `Dat.before_out_traj`. -/
theorem hcarry2_3 (c : Dev nD) : ∀ (t : Fin cfg2.N) (_ : t.val ≠ 0), cfg2.idle 3 (grid2.coords t) = true → cfg2.fresh 3 t.val = false →
    (dat2 V c).after 3 t = (dat2 V c).after 3 ⟨t.val - 1, by omega⟩ := by
  intro t _ hi _
  have hN : t.val < 4 := lt_of_lt_of_eq t.isLt (show cfg2.N = 4 from N_2)
  rw [after2_3, after2_3]
  by_cases h0 : t.val % 4 = 0
  · by_cases h1 : 1 ≤ t.val
    · exfalso; omega
    · by_cases h2 : t.val % 4 = 3
      · exfalso; omega
      · rw [liveAt2_3_A t ((hcond2_0 t).mpr h0) (fun h => h1 ((hcond2_1 t).mp h)) (fun h => h2 ((hcond2_2 t).mp h))] at hi
        exact absurd hi Bool.false_ne_true
  · by_cases h1 : 1 ≤ t.val
    · by_cases h2 : t.val % 4 = 3
      · rw [liveAt2_3_C t (fun h => h0 ((hcond2_0 t).mp h)) ((hcond2_1 t).mpr h1) ((hcond2_2 t).mpr h2)] at hi
        exact absurd hi Bool.false_ne_true
      · rw [liveAt2_3_B t (fun h => h0 ((hcond2_0 t).mp h)) ((hcond2_1 t).mpr h1) (fun h => h2 ((hcond2_2 t).mp h))] at hi
        exact absurd hi Bool.false_ne_true
    · exfalso; omega
/-- At a point of case B output 3's current staging buffer holds what the point before left: the buffer is not fresh
    there (`notFresh2_3_B`: stored into since the region's entry or the last write-back, carried through the points that
    leave it idle by `hcarry2_3`; Lib/Pipeline/TableIdle.lean `Dat.before_out_traj`). -/
theorem before2_3_B (c : Dev nD) (t : Fin cfg2.N) (h0 : ¬t.val % 4 = 0) (h1 : 1 ≤ t.val) (h2 : ¬t.val % 4 = 3) (d) :
    (dat2 V c).before 3 t d = (outsAt2 V c (t.val - 1) (Nat.lt_of_le_of_lt (Nat.sub_le _ _) t.isLt)).2.2.1 := by
  rw [Dat.before_out_traj _ 3 rfl (fun _ _ => rfl) (hcarry2_3 V c) t.val t rfl d,
    if_neg (by rw [notFresh2_3_B t (fun h => h0 ((hcond2_0 t).mp h)) ((hcond2_1 t).mpr h1) (fun h => h2 ((hcond2_2 t).mp h))]; exact Bool.false_ne_true)]
  dsimp only [dat2]
/-- At a point of case C output 3's current staging buffer holds what the point before left: the buffer is not fresh
    there (`notFresh2_3_C`: stored into since the region's entry or the last write-back, carried through the points that
    leave it idle by `hcarry2_3`; Lib/Pipeline/TableIdle.lean `Dat.before_out_traj`). -/
theorem before2_3_C (c : Dev nD) (t : Fin cfg2.N) (h0 : ¬t.val % 4 = 0) (h1 : 1 ≤ t.val) (h2 : t.val % 4 = 3) (d) :
    (dat2 V c).before 3 t d = (outsAt2 V c (t.val - 1) (Nat.lt_of_le_of_lt (Nat.sub_le _ _) t.isLt)).2.2.1 := by
  rw [Dat.before_out_traj _ 3 rfl (fun _ _ => rfl) (hcarry2_3 V c) t.val t rfl d,
    if_neg (by rw [notFresh2_3_C t (fun h => h0 ((hcond2_0 t).mp h)) ((hcond2_1 t).mpr h1) ((hcond2_2 t).mpr h2)]; exact Bool.false_ne_true)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 1200000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl]
  have hN : t.val < 4 := lt_of_lt_of_eq t.isLt (show cfg2.N = 4 from N_2)
  by_cases h0 : t.val % 4 = 0
  · by_cases h1 : 1 ≤ t.val
    · exfalso; omega
    · by_cases h2 : t.val % 4 = 3
      · exfalso; omega
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3_A t ((hcond2_0 t).mpr h0) (fun h => h1 ((hcond2_1 t).mp h)) (fun h => h2 ((hcond2_2 t).mp h))], after2_3]
        rw [Dat.leavesExact_idle (dat2 V c) 4 t (idleAt2_4_A t ((hcond2_0 t).mpr h0) (fun h => h1 ((hcond2_1 t).mp h)) (fun h => h2 ((hcond2_2 t).mp h))) (noFlush2_4_A t ((hcond2_0 t).mpr h0) (fun h => h1 ((hcond2_1 t).mp h)) (fun h => h2 ((hcond2_2 t).mp h)))]
        rw [show (dat2 V c).leavesExact 5 t = owns (c : Thread nD τ) (ms2_5 t) fullShare ((dat2 V c).after 5 t) from by
      unfold Dat.leavesExact; rw [liveAt2_5 t], after2_5]
        rw [show (dat2 V c).leavesExact 6 t = owns (c : Thread nD τ) (ms2_6 t) fullShare ((dat2 V c).after 6 t) from by
      unfold Dat.leavesExact; rw [liveAt2_6 t], after2_6]
        rw [outsAt2_A V c t h0 h1 h2]
        unfold out2_A_1 out2_A_2 out2_A_3 out2_A_5 out2_A_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ ((hcond2_0 t).mpr h0) (fun h => h1 ((hcond2_1 t).mp h)) (fun h => h2 ((hcond2_2 t).mp h)) (iblk2 V c 0 t)).2.2.2.2.2.2 _ Set.univ _)
        isplitl [H0]; · iexact H0
        isplitl [H1]; · iexists _; iexact H1
        isplitl [H2]; · iexists _; iexact H2
        isplitl [H3]; · iexists _; iexact H3
        isplitl [H4]; · iexact H4
        isplitl [H5]; · iexists _; iexact H5
        isplitl [H6]; · iexists _; iexact H6
        iintro ⟨H0, ⟨%e1, H1⟩, ⟨%e2, H2⟩, ⟨%e3, H3⟩, H4, ⟨%e5, H5⟩, ⟨%e6, H6⟩⟩
        isplitl [HΦ]; · iexact HΦ
        isplitl [Ho]; · iexact Ho
        isplitl [H0]; · iexact H0
        isplitl [H1]
        · unfold owns; iexists _; isplitr
          swap; · iexact H1
          ipureintro; exact View.read_writes_of_cover _ _ _ _ _ (cover2_A_1 c _ _ _ _ _ _ _ _ _ _ _ _ _ _ _ _ _ _ _)
        isplitl [H2]
        · unfold owns; iexists _; isplitr
          swap; · iexact H2
          ipureintro; exact View.read_writes_of_cover _ _ _ _ _ (cover2_A_2 c _ _ _ _ _ _ _ _ _ _ _ _ _ _ _ _ _ _ _)
        isplitl [H3]
        · unfold owns; iexists _; isplitr
          swap; · iexact H3
          ipureintro; exact View.read_writes_of_cover _ _ _ _ _ (cover2_A_3 c _ _ _ _ _ _ _ _ _ _ _ _ _ _ _ _ _ _ _)
        isplitl [H4]; · iexists _; iexact H4
        isplitl [H5]
        · unfold owns; iexists _; isplitr
          swap; · iexact H5
          ipureintro; exact View.read_writes_of_cover _ _ _ _ _ (cover2_A_5 c _ _ _ _ _ _ _ _ _ _ _ _ _ _ _ _ _ _ _)
        unfold owns; iexists _; isplitr
        swap; · iexact H6
        ipureintro; exact View.read_writes_of_cover _ _ _ _ _ (cover2_A_6 c _ _ _ _ _ _ _ _ _ _ _ _ _ _ _ _ _ _ _)
  · by_cases h1 : 1 ≤ t.val
    · by_cases h2 : t.val % 4 = 3
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3_C t (fun h => h0 ((hcond2_0 t).mp h)) ((hcond2_1 t).mpr h1) ((hcond2_2 t).mpr h2)], after2_3]
        rw [show (dat2 V c).leavesExact 4 t = owns (c : Thread nD τ) (ms2_4 t) fullShare ((dat2 V c).after 4 t) from by
      unfold Dat.leavesExact; rw [liveAt2_4_C t (fun h => h0 ((hcond2_0 t).mp h)) ((hcond2_1 t).mpr h1) ((hcond2_2 t).mpr h2)], after2_4]
        rw [show (dat2 V c).leavesExact 5 t = owns (c : Thread nD τ) (ms2_5 t) fullShare ((dat2 V c).after 5 t) from by
      unfold Dat.leavesExact; rw [liveAt2_5 t], after2_5]
        rw [show (dat2 V c).leavesExact 6 t = owns (c : Thread nD τ) (ms2_6 t) fullShare ((dat2 V c).after 6 t) from by
      unfold Dat.leavesExact; rw [liveAt2_6 t], after2_6]
        rw [outsAt2_C V c t h0 h1 h2]
        simp only [before2_3_C V c t h0 h1 h2]
        unfold out2_C_1 out2_C_2 out2_C_3 out2_C_4 out2_C_5 out2_C_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ (fun h => h0 ((hcond2_0 t).mp h)) ((hcond2_1 t).mpr h1) ((hcond2_2 t).mpr h2) (iblk2 V c 0 t) _).2.2.2.2.2.2 Set.univ _)
        isplitl [H0]; · iexact H0
        isplitl [H1]; · iexists _; iexact H1
        isplitl [H2]; · iexists _; iexact H2
        isplitl [H3]; · iexact H3
        isplitl [H4]; · iexists _; iexact H4
        isplitl [H5]; · iexists _; iexact H5
        isplitl [H6]; · iexists _; iexact H6
        iintro ⟨H0, ⟨%e1, H1⟩, ⟨%e2, H2⟩, ⟨%e3, H3⟩, ⟨%e4, H4⟩, ⟨%e5, H5⟩, ⟨%e6, H6⟩⟩
        isplitl [HΦ]; · iexact HΦ
        isplitl [Ho]; · iexact Ho
        isplitl [H0]; · iexact H0
        isplitl [H1]
        · unfold owns; iexists _; isplitr
          swap; · iexact H1
          ipureintro; exact View.read_writes_of_cover _ _ _ _ _ (cover2_C_1 c _ _ _ _ _ _ _ _ _ _ _ _ _ _ _ _ _ _ _ _)
        isplitl [H2]
        · unfold owns; iexists _; isplitr
          swap; · iexact H2
          ipureintro; exact View.read_writes_of_cover _ _ _ _ _ (cover2_C_2 c _ _ _ _ _ _ _ _ _ _ _ _ _ _ _ _ _ _ _ _)
        isplitl [H3]
        · unfold owns; iexists _; isplitr
          swap; · iexact H3
          ipureintro; exact View.read_writes_of_cover _ _ _ _ _ (cover2_C_3 c _ _ _ _ _ _ _ _ _ _ _ _ _ _ _ _ _ _ _ _)
        isplitl [H4]
        · unfold owns; iexists _; isplitr
          swap; · iexact H4
          ipureintro; exact View.read_writes_of_cover _ _ _ _ _ (cover2_C_4 c _ _ _ _ _ _ _ _ _ _ _ _ _ _ _ _ _ _ _ _)
        isplitl [H5]
        · unfold owns; iexists _; isplitr
          swap; · iexact H5
          ipureintro; exact View.read_writes_of_cover _ _ _ _ _ (cover2_C_5 c _ _ _ _ _ _ _ _ _ _ _ _ _ _ _ _ _ _ _ _)
        unfold owns; iexists _; isplitr
        swap; · iexact H6
        ipureintro; exact View.read_writes_of_cover _ _ _ _ _ (cover2_C_6 c _ _ _ _ _ _ _ _ _ _ _ _ _ _ _ _ _ _ _ _)
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3_B t (fun h => h0 ((hcond2_0 t).mp h)) ((hcond2_1 t).mpr h1) (fun h => h2 ((hcond2_2 t).mp h))], after2_3]
        rw [Dat.leavesExact_idle (dat2 V c) 4 t (idleAt2_4_B t (fun h => h0 ((hcond2_0 t).mp h)) ((hcond2_1 t).mpr h1) (fun h => h2 ((hcond2_2 t).mp h))) (noFlush2_4_B t (fun h => h0 ((hcond2_0 t).mp h)) ((hcond2_1 t).mpr h1) (fun h => h2 ((hcond2_2 t).mp h)))]
        rw [show (dat2 V c).leavesExact 5 t = owns (c : Thread nD τ) (ms2_5 t) fullShare ((dat2 V c).after 5 t) from by
      unfold Dat.leavesExact; rw [liveAt2_5 t], after2_5]
        rw [show (dat2 V c).leavesExact 6 t = owns (c : Thread nD τ) (ms2_6 t) fullShare ((dat2 V c).after 6 t) from by
      unfold Dat.leavesExact; rw [liveAt2_6 t], after2_6]
        rw [outsAt2_B V c t h0 h1 h2]
        simp only [before2_3_B V c t h0 h1 h2]
        unfold out2_B_1 out2_B_2 out2_B_3 out2_B_5 out2_B_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ (fun h => h0 ((hcond2_0 t).mp h)) ((hcond2_1 t).mpr h1) (fun h => h2 ((hcond2_2 t).mp h)) (iblk2 V c 0 t) _).2.2.2.2.2.2 _ Set.univ _)
        isplitl [H0]; · iexact H0
        isplitl [H1]; · iexists _; iexact H1
        isplitl [H2]; · iexists _; iexact H2
        isplitl [H3]; · iexact H3
        isplitl [H4]; · iexact H4
        isplitl [H5]; · iexists _; iexact H5
        isplitl [H6]; · iexists _; iexact H6
        iintro ⟨H0, ⟨%e1, H1⟩, ⟨%e2, H2⟩, ⟨%e3, H3⟩, H4, ⟨%e5, H5⟩, ⟨%e6, H6⟩⟩
        isplitl [HΦ]; · iexact HΦ
        isplitl [Ho]; · iexact Ho
        isplitl [H0]; · iexact H0
        isplitl [H1]
        · unfold owns; iexists _; isplitr
          swap; · iexact H1
          ipureintro; exact View.read_writes_of_cover _ _ _ _ _ (cover2_B_1 c _ _ _ _ _ _ _ _ _ _ _ _ _ _ _ _ _ _ _ _)
        isplitl [H2]
        · unfold owns; iexists _; isplitr
          swap; · iexact H2
          ipureintro; exact View.read_writes_of_cover _ _ _ _ _ (cover2_B_2 c _ _ _ _ _ _ _ _ _ _ _ _ _ _ _ _ _ _ _ _)
        isplitl [H3]
        · unfold owns; iexists _; isplitr
          swap; · iexact H3
          ipureintro; exact View.read_writes_of_cover _ _ _ _ _ (cover2_B_3 c _ _ _ _ _ _ _ _ _ _ _ _ _ _ _ _ _ _ _ _)
        isplitl [H4]; · iexists _; iexact H4
        isplitl [H5]
        · unfold owns; iexists _; isplitr
          swap; · iexact H5
          ipureintro; exact View.read_writes_of_cover _ _ _ _ _ (cover2_B_5 c _ _ _ _ _ _ _ _ _ _ _ _ _ _ _ _ _ _ _ _)
        unfold owns; iexists _; isplitr
        swap; · iexact H6
        ipureintro; exact View.read_writes_of_cover _ _ _ _ _ (cover2_B_6 c _ _ _ _ _ _ _ _ _ _ _ _ _ _ _ _ _ _ _ _)
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.Kernel.Whole

end
-- ==== Proof.K.Run.lean ====
/- The run of the whole program: the host stretches and the three calls in order, what every buffer holds at each boundary
   between them, and that the run terminates with the arguments as launched. -/
module

public import proofs.«01_k».proof.Proof.K.Transform
public import proofs.«01_k».proof.Proof.K.Decode
public import proofs.«01_k».proof.Proof.K.Finalize
@[expose] public section

set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references. -/
abbrev argRefs : List (Ref sig .tc) := [main_arg0, main_arg1, main_arg2, main_arg3, main_arg4, main_arg5, main_arg6, main_arg7, main_arg8, main_arg9, main_arg10]

/-! ## The host stretches -/

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v13, main_v14, main_v15, main_v16, main_v17, main_v18, main_v19, main_v20, main_v21]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)
/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ## The proof data and the thread state -/
/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
/-- The same as relational data: the decode region's holds its output window to what `rdat1` says. -/
def rpdats : (p : Fin 3) → (c : Dev nD) → Pipeline.RDat τ (Elt F) Unit ℕ (UR sig nD τ) ℕ (Pipeline.pin (pcfgs (F := F)) adm p) c
  | ⟨0, _⟩ => fun c => (dat0 (V1 m ρ) c).toR
  | ⟨1, _⟩ => fun c => rdat1 (V3 m ρ) c
  | ⟨2, _⟩ => fun c => (dat2 (V4 m ρ) c).toR
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rpdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    rw [show ((rpdats m ρ 0 c).arrays (rpdats m ρ 0 c).A : sProp 𝕄) = (pdats m ρ 0 c).arrays ((pdats m ρ 0 c).arrAt · 0) from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have hx : ((rpdats m ρ 0 c).arraysAt cfg0.N : sProp 𝕄) ⊢ (pdats m ρ 0 c).arrays ((pdats m ρ 0 c).arrAt · cfg0.N) := Entails.of_eq ((dat0 (V1 m ρ) c).toR_arraysAt_eq cfg0.N)
    iintro ⟨Ha, HO, HY, Hrest⟩
    ihave Ha := hx $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rpdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.RDat.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    rw [show ((rpdats m ρ 1 c).arrays (rpdats m ρ 1 c).A : sProp 𝕄) = (pdats m ρ 1 c).arrays ((pdats m ρ 1 c).arrAt · 0) from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    have hx : ((rpdats m ρ 1 c).arraysAt cfg1.N : sProp 𝕄) ⊢ (pdats m ρ 1 c).arrays ((pdats m ρ 1 c).arrAt · cfg1.N) := arraysAt1 (V3 m ρ) c
    iintro ⟨Ha, HO, HY, Hrest⟩
    ihave Ha := hx $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RDat.RegionSeg (pcfgs (F := F)) adm (rpdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose.toR
  hwaits := Pipeline.RDat.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    rw [show ((rpdats m ρ 2 c).arrays (rpdats m ρ 2 c).A : sProp 𝕄) = (pdats m ρ 2 c).arrays ((pdats m ρ 2 c).arrAt · 0) from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    have hx : ((rpdats m ρ 2 c).arraysAt cfg2.N : sProp 𝕄) ⊢ (pdats m ρ 2 c).arrays ((pdats m ρ 2 c).arrAt · cfg2.N) := Entails.of_eq ((dat2 (V4 m ρ) c).toR_arraysAt_eq cfg2.N)
    iintro ⟨Ha, HO, HY, Hrest⟩
    ihave Ha := hx $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## @main as segments, and the launch -/

/-- @main's 6 segments in order. -/
abbrev segs : List (Pipeline.RDat.Seg (pcfgs (F := F)) adm (rpdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters, every weakly fair execution of @main terminates, every buffer outside
    the kernels' scopes ends at the last boundary's contents `W6`, and every semaphore counter at zero. -/
theorem run_mem : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.RDat.θ_run_regions_kit_sems (pcfgs (F := F)) adm (rpdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- Every execution terminates, the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun s h => ⟨fun c =>
      ⟨(h.1 c _ (mem_uc main_arg0 (by decide))).trans (W6_args m ρ c main_arg0 (by decide)),
       (h.1 c _ (mem_uc main_arg1 (by decide))).trans (W6_args m ρ c main_arg1 (by decide)),
       (h.1 c _ (mem_uc main_arg2 (by decide))).trans (W6_args m ρ c main_arg2 (by decide)),
       (h.1 c _ (mem_uc main_arg3 (by decide))).trans (W6_args m ρ c main_arg3 (by decide)),
       (h.1 c _ (mem_uc main_arg4 (by decide))).trans (W6_args m ρ c main_arg4 (by decide)),
       (h.1 c _ (mem_uc main_arg5 (by decide))).trans (W6_args m ρ c main_arg5 (by decide)),
       (h.1 c _ (mem_uc main_arg6 (by decide))).trans (W6_args m ρ c main_arg6 (by decide)),
       (h.1 c _ (mem_uc main_arg7 (by decide))).trans (W6_args m ρ c main_arg7 (by decide)),
       (h.1 c _ (mem_uc main_arg8 (by decide))).trans (W6_args m ρ c main_arg8 (by decide)),
       (h.1 c _ (mem_uc main_arg9 (by decide))).trans (W6_args m ρ c main_arg9 (by decide)),
       (h.1 c _ (mem_uc main_arg10 (by decide))).trans (W6_args m ρ c main_arg10 (by decide))⟩, h.2⟩) (run_mem m ρ)

end Cert.Kernel.Whole

end
-- ==== Proof.Spec.lean ====
/- The head as functions of the argument arrays, over the extended reals and element by element: the token transform
   (dense layer, gelu, layer norm), its fp8 codes and scale per token, the masked vocabulary logits and their maximum
   over the tokens of a document, and the statistics and u8 codes made of it. Both programs are shown to compute this. -/
module

public import Idealize.ShloMosaic.Lib.Pointwise

@[expose] public section

noncomputable section

namespace Cert.Splade

open Idealize.ShloMosaic

/-! ## Constants -/

/-- The programs' `0.5`. -/
def half : EReal := Ideal.ofBits .f32 0x3F000000#32
/-- The programs' `sqrt (1/2)`, as a single-precision constant. -/
def sqrtHalf : EReal := Ideal.ofBits .f32 0x3F3504F3#32
/-- The programs' layer norm epsilon. -/
def eps : EReal := Ideal.ofBits .f32 0x2B8CBCCC#32
/-- `448`, the greatest fp8 value. -/
def fp8Max : EReal := Ideal.ofBits .f32 0x43E00000#32
/-- `-448`. -/
def fp8Min : EReal := Ideal.ofBits .f32 0xC3E00000#32
/-- `255`, the greatest u8 value. -/
def u8Max : EReal := Ideal.ofBits .f32 0x437F0000#32
/-- Minus infinity: the logit of a padding token, and where a maximum starts. -/
def negInf : EReal := Ideal.ofBits .f32 0xFF800000#32

/-! ## One token -/

/-- The dense layer: the codes' product, times the token's scale, times the column's scale, plus the bias. -/
def lin (x : Fin 768 → EReal) (w : Fin 768 → Fin 768 → EReal) (xs : EReal) (ws bt : Fin 768 → EReal) (d : Fin 768) : EReal :=
  (∑ k, x k * w k d) * xs * ws d + bt d

/-- The exact gelu, `t/2 · (1 + erf (t/√2))`. -/
def gelu (t : EReal) : EReal := half * t * (1 + FloatOps.erf (F := Ideal) (φ := .f32) (t * sqrtHalf))

/-- A row less its mean. -/
def centre (g : Fin 768 → EReal) (d : Fin 768) : EReal := g d - (∑ e, g e) * ((1 / 768 : ℝ) : EReal)

/-- The variance of a centred row. -/
def variance (c : Fin 768 → EReal) : EReal := (∑ e, c e * c e) * ((1 / 768 : ℝ) : EReal)

/-- The layer norm of a centred row, scaled by `γ` and shifted by `β`. -/
def normed (c γ β : Fin 768 → EReal) (d : Fin 768) : EReal := c d * Ideal.rsqrt (variance c + eps) * γ d + β d

/-- The greatest of finitely many values. -/
def peak {n : ℕ} (f : Fin n → EReal) : EReal := Finset.univ.fold max negInf f

/-- A quantiser's scale for the greatest magnitude `a` and the greatest code `m`: `a / m`, and one where `a` is not positive. -/
def scaleOf (m a : EReal) : EReal := if 0 < a then Ideal.div a m else 1

/-- The scale of a token's fp8 codes. -/
def tokScale (y : Fin 768 → EReal) : EReal := scaleOf fp8Max (peak fun d => FloatOps.absf (F := Ideal) (φ := .f32) (y d))

/-- A token's fp8 codes. -/
def tokCode (y : Fin 768 → EReal) (d : Fin 768) : EReal := min fp8Max (max fp8Min (Ideal.div (y d) (tokScale y)))

/-! ## One document -/

/-- The logit of one token and one vocabulary entry. -/
def logit (z : Fin 768 → EReal) (zs : EReal) (e : Fin 768 → EReal) (es bv : EReal) : EReal := (∑ k, z k * e k) * zs * es + bv

/-- A token's logit, minus infinity at a position past the document's length `n`. -/
def masked (n : BitVec 32) (r : Fin 256) (l : EReal) : EReal :=
  Scalar.select (IntOp.cmpi .slt (BitVec.ofNat 32 r.val) n) l negInf

/-- The greatest logit of one vocabulary entry over a document's tokens. -/
def docMax (n : BitVec 32) (z : Fin 256 → Fin 768 → EReal) (zs : Fin 256 → EReal) (e : Fin 768 → EReal) (es bv : EReal) : EReal :=
  peak fun r => masked n r (logit (z r) (zs r) e es bv)

/-- The weight of a vocabulary entry, `log (1 + max m 0)`. -/
def weight (m : EReal) : EReal := FloatOps.log1p (F := Ideal) (φ := .f32) (max m 0)

/-- The scale of a document's u8 codes. -/
def docScale (rep : Fin 30522 → EReal) : EReal := scaleOf u8Max (peak rep)

/-- A document's u8 codes. -/
def impact (rep : Fin 30522 → EReal) (v : Fin 30522) : BitVec 8 :=
  BitVec.setWidth 8 (FloatOps.fptosi (F := Ideal) (φ := .f32) 32
    (min u8Max (max 0 (Ideal.liftRound Ideal.roundHalfEven (Ideal.div (rep v) (docScale rep))))))

/-! ## The arrays -/

/-- The programs' arguments, by coordinates. -/
structure Args where
  x : Fin 128 → Fin 256 → Fin 768 → EReal
  xs : Fin 128 → Fin 256 → EReal
  lens : Fin 128 → BitVec 32
  w : Fin 768 → Fin 768 → EReal
  ws : Fin 768 → EReal
  bt : Fin 768 → EReal
  ga : Fin 768 → EReal
  be : Fin 768 → EReal
  emb : Fin 30522 → Fin 768 → EReal
  es : Fin 30522 → EReal
  bv : Fin 30522 → EReal

namespace Args

variable (A : Args)

/-- The activations of token `r` of document `b`, centred. -/
def c (b : Fin 128) (r : Fin 256) : Fin 768 → EReal := centre fun d => gelu (lin (A.x b r) A.w (A.xs b r) A.ws A.bt d)
/-- The transformed token. -/
def y (b : Fin 128) (r : Fin 256) : Fin 768 → EReal := normed (A.c b r) A.ga A.be
/-- Its scale. -/
def zs (b : Fin 128) (r : Fin 256) : EReal := tokScale (A.y b r)
/-- Its codes. -/
def z (b : Fin 128) (r : Fin 256) : Fin 768 → EReal := tokCode (A.y b r)
/-- The greatest logit of entry `v` in document `b`. -/
def m (b : Fin 128) (v : Fin 30522) : EReal := docMax (A.lens b) (A.z b) (A.zs b) (A.emb v) (A.es v) (A.bv v)
/-- The sparse representation. -/
def rep (b : Fin 128) (v : Fin 30522) : EReal := weight (A.m b v)
/-- Each document's sum of weights. -/
def l1 (b : Fin 128) : EReal := ∑ v, A.rep b v
/-- Each entry's mean weight over the documents. -/
def mean (v : Fin 30522) : EReal := (∑ b, A.rep b v) * ((1 / 128 : ℝ) : EReal)
/-- The sum of the squared means. -/
def flops : EReal := ∑ v, A.mean v * A.mean v
/-- The u8 codes of the representation. -/
def codes (b : Fin 128) (v : Fin 30522) : BitVec 8 := impact (A.rep b) v
/-- Their scales. -/
def scale (b : Fin 128) : EReal := docScale (A.rep b)

end Args

/-! ## The programs' constants -/

/-- The float constant `768` is the number. -/
theorem ofBits_768 : Ideal.ofBits .f32 0x44400000#32 = ((768 : ℝ) : EReal) := by
  simp [Ideal.ofBits, Ideal.ieee, -EReal.coe_mul]; norm_num

/-- The float constant `128` is the number. -/
theorem ofBits_128 : Ideal.ofBits .f32 0x43000000#32 = ((128 : ℝ) : EReal) := by
  simp [Ideal.ofBits, Ideal.ieee, -EReal.coe_mul]; norm_num

/-- The float constant `1/128` is the number. -/
theorem ofBits_inv_128 : Ideal.ofBits .f32 0x3C000000#32 = ((1 / 128 : ℝ) : EReal) := by
  simp [Ideal.ofBits, Ideal.ieee, -EReal.coe_mul]; norm_num

/-- A quotient by `768` is the product with `1/768`. -/
theorem div_768 (s : EReal) : Ideal.div s (Ideal.ofBits .f32 0x44400000#32) = s * ((1 / 768 : ℝ) : EReal) := by
  rw [ofBits_768, Ideal.div_coe (by norm_num : (768 : ℝ) ≠ 0)]

/-- A quotient by `128` is the product with `1/128`. -/
theorem div_128 (s : EReal) : Ideal.div s (Ideal.ofBits .f32 0x43000000#32) = s * ((1 / 128 : ℝ) : EReal) := by
  rw [ofBits_128, Ideal.div_coe (by norm_num : (128 : ℝ) ≠ 0)]

end Cert.Splade

end
-- ==== Proof.Results.lean ====
/- The specification over whole arrays: the arguments read from eleven arrays, and the eight results as arrays. -/
module

public import proofs.«01_k».proof.Proof.Spec

@[expose] public section

noncomputable section

namespace Cert.Splade

open Idealize.ShloMosaic

/-- The arguments, of the arrays that hold them. -/
def Args.of (a0 : Vec Ideal ⟨3, ![128, 256, 768]⟩ .fp8e4m3) (a1 : Vec Ideal ⟨2, ![128, 256]⟩ .f32) (a2 : Vec Ideal ⟨1, ![128]⟩ .i32)
    (a3 : Vec Ideal ⟨2, ![768, 768]⟩ .fp8e4m3) (a4 a5 a6 a7 : Vec Ideal ⟨1, ![768]⟩ .f32) (a8 : Vec Ideal ⟨2, ![30522, 768]⟩ .fp8e4m3)
    (a9 a10 : Vec Ideal ⟨1, ![30522]⟩ .f32) : Args where
  x b r k := a0 (ix3 b r k)
  xs b r := a1 (ix2 b r)
  lens b := a2 (ix1 b)
  w k d := a3 (ix2 k d)
  ws d := a4 (ix1 d)
  bt d := a5 (ix1 d)
  ga d := a6 (ix1 d)
  be d := a7 (ix1 d)
  emb v k := a8 (ix2 v k)
  es v := a9 (ix1 v)
  bv v := a10 (ix1 v)

namespace Args

variable (A : Args)

/-- The sparse representation, as an array. -/
def out0 : Vec Ideal ⟨2, ![128, 30522]⟩ .f32 := fun j => A.rep (j 0) (j 1)
/-- The documents' sums. -/
def out1 : Vec Ideal ⟨1, ![128]⟩ .f32 := fun j => A.l1 (j 0)
/-- The entries' means. -/
def out2 : Vec Ideal ⟨1, ![30522]⟩ .f32 := fun j => A.mean (j 0)
/-- The sum of the squared means. -/
def out3 : Vec Ideal ⟨0, ![]⟩ .f32 := fun _ => A.flops
/-- The tokens' codes. -/
def out4 : Vec Ideal ⟨3, ![128, 256, 768]⟩ .fp8e4m3 := fun j => A.z (j 0) (j 1) (j 2)
/-- The tokens' scales. -/
def out5 : Vec Ideal ⟨2, ![128, 256]⟩ .f32 := fun j => A.zs (j 0) (j 1)
/-- The representation's codes. -/
def out6 : Vec Ideal ⟨2, ![128, 30522]⟩ .i8 := fun j => A.codes (j 0) (j 1)
/-- Their scales. -/
def out7 : Vec Ideal ⟨1, ![128]⟩ .f32 := fun j => A.scale (j 0)

end Args

end Cert.Splade

end
-- ==== Proof.KI.Transform.lean ====
/- The transform call at the contents of the buffers it is entered with: what its body leaves in the two output
   windows' buffers, and that the body runs at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

/-! # REGION 0 of @main: custom_call 0, `cc0_transform` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x768 := Rect.unit (s := S256x768) ![0, 0] S256x768.size inb_S256x768_S256x768_0_0
abbrev r0_1 : Rect S768x768 := Rect.unit (s := S768x768) ![0, 0] S768x768.size inb_S768x768_S768x768_0_0
abbrev r0_2 : Rect S1x1x256 := Rect.unit (s := S1x1x256) ![0, 0, 0] S1x1x256.size inb_S1x1x256_S1x1x256_0_0_0
abbrev r0_3 : Rect S1x768 := Rect.unit (s := S1x768) ![0, 0] S1x768.size inb_S1x768_S1x768_0_0

/-! ## What the body leaves in each output window's buffer -/

/-! ### Values of the body that the stores' payloads, spelt out, would write more than once

    Each is a vector the body binds (often a part call's result), stated over the input windows' blocks and
    numbered on from the skeleton's payload functions (`k0_pay7` …, after `k0_pay6`), so that
    `out0_W` and the values after it name it instead of spelling it out (`unfold_out out0_W` opens a canon
    with them, `unfold_payloads` opens them with the payloads); the comment after each is the printed function's
    name for the value (a count appended where that name is bound again). -/

def k0_pay7 (x0 : Vec F S256x768 .fp8e4m3) (x1 : Vec F S1x1x256 .f32) (x2 : Vec F S768x768 .fp8e4m3) (x3 : Vec F S1x768 .f32) (x4 : Vec F S1x768 .f32) (x5 : Vec F S1x768 .f32) (x6 : Vec F S1x768 .f32) : FVec F S256x768 .f32 :=
  k0_pay5 (View.ld x0 r0_0) (View.ld x2 r0_1) (View.ld x1 r0_2) (View.ld x3 r0_3) (View.ld x4 r0_3) -- `v33`
def k0_pay8 (x0 : Vec F S256x768 .fp8e4m3) (x1 : Vec F S1x1x256 .f32) (x2 : Vec F S768x768 .fp8e4m3) (x3 : Vec F S1x768 .f32) (x4 : Vec F S1x768 .f32) (x5 : Vec F S1x768 .f32) (x6 : Vec F S1x768 .f32) : FVec F S256x1 .f32 :=
  k0_pay6 (View.ld x0 r0_0) (View.ld x2 r0_1) (View.ld x1 r0_2) (View.ld x3 r0_3) (View.ld x4 r0_3) -- `v38`

/-- Window 7's staging buffer after the body, from the input windows' blocks: its 1 store as pieces, LAST
    FIRST (Lib/Pipeline/FrameBody.lean `View.canon`; the payloads are the skeleton's and the values stated above). -/
def out0_7 (x0 : Vec F S256x768 .fp8e4m3) (x1 : Vec F S1x1x256 .f32) (x2 : Vec F S768x768 .fp8e4m3) (x3 : Vec F S1x768 .f32) (x4 : Vec F S1x768 .f32) (x5 : Vec F S1x768 .f32) (x6 : Vec F S1x768 .f32) : Vec F S256x768 .fp8e4m3 :=
  View.canon [⟨r0_0, k0_pay3 (k0_pay7 x0 x1 x2 x3 x4 x5 x6) (k0_pay8 x0 x1 x2 x3 x4 x5 x6) (Scalar.ofBits .f32 0x2B8CBCCC#32) (View.ld x5 r0_3) (View.ld x6 r0_3)⟩]

/-- Its stores tile the buffer (checked by evaluation), so they cover it. -/
theorem cover0_7 (p0 : Vec F S256x768 .fp8e4m3) (y : S256x768.Idx) :
    ∃ pc ∈ ([⟨r0_0, p0⟩] : List (View.Piece (Elt F) S256x768 .fp8e4m3)), y ∈ pc.1.set :=
  View.cover_of_tiled [⟨r0_0, p0⟩] S256x768.size (by rfl) y

/-- Window 8's staging buffer after the body, from the input windows' blocks: its 1 store as pieces, LAST
    FIRST (Lib/Pipeline/FrameBody.lean `View.canon`; the payloads are the skeleton's and the values stated above). -/
def out0_8 (x0 : Vec F S256x768 .fp8e4m3) (x1 : Vec F S1x1x256 .f32) (x2 : Vec F S768x768 .fp8e4m3) (x3 : Vec F S1x768 .f32) (x4 : Vec F S1x768 .f32) (x5 : Vec F S1x768 .f32) (x6 : Vec F S1x768 .f32) : Vec F S1x1x256 .f32 :=
  View.canon [⟨r0_2, k0_pay4 (k0_pay7 x0 x1 x2 x3 x4 x5 x6) (k0_pay8 x0 x1 x2 x3 x4 x5 x6) (Scalar.ofBits .f32 0x2B8CBCCC#32) (View.ld x5 r0_3) (View.ld x6 r0_3)⟩]

/-- Its stores tile the buffer (checked by evaluation), so they cover it. -/
theorem cover0_8 (p0 : Vec F S1x1x256 .f32) (y : S1x1x256.Idx) :
    ∃ pc ∈ ([⟨r0_2, p0⟩] : List (View.Piece (Elt F) S1x1x256 .f32)), y ∈ pc.1.set :=
  View.cover_of_tiled [⟨r0_2, p0⟩] S1x1x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x768 .fp8e4m3) (harg1 : arg1.IsWhole) (arg2 : Memref sig .tc .vmem S1x1x256 .f32) (harg2 : arg2.IsWhole) (arg3 : Memref sig .tc .vmem S768x768 .fp8e4m3) (harg3 : arg3.IsWhole) (arg4 : Memref sig .tc .vmem S1x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S256x768 .fp8e4m3) (harg8 : arg8.IsWhole) (arg9 : Memref sig .tc .vmem S1x1x256 .f32) (harg9 : arg9.IsWhole)
    (x0 : Vec F S256x768 .fp8e4m3) (x1 : Vec F S1x1x256 .f32) (x2 : Vec F S768x768 .fp8e4m3) (x3 : Vec F S1x768 .f32) (x4 : Vec F S1x768 .f32) (x5 : Vec F S1x768 .f32) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0_transform i arg1 harg1 arg2 harg2 arg3 harg3 arg4 harg4 arg5 harg5 arg6 harg6 arg7 harg7 arg8 harg8 arg9 harg9) K := by
  simp only [cc0_transform_eq_skeleton]; unfold cc0_transform_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _)).trans ?_
    rfl
  iexists _; isplitr
  swap; · iexact H8
  ipureintro
  refine (View.read_writes_eq_canon _ _ _ (cover0_8 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KI.DecodeBody.lean ====
/- The decode call's body: one document's row of one vocabulary tile. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Writes
public import Idealize.ShloMosaic.Lib.WritesUnit
public import Idealize.ShloMosaic.Lib.VecWindow
public import Idealize.ShloMosaic.Lib.Pointwise
public import Idealize.ShloMosaic.PureOps.Reduce

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A reduction's element depends only on the source elements that reduce to it. -/
theorem reduceFold_congr {α : Type} {s t : Shape} {axes : List (Fin s.rank)} (h : s.Reduces axes t) (f : α → α → α) (a : α)
    (x y : s.Idx → α) (j : t.Idx) (hxy : ∀ i, h.drop i = j → x i = y i) : reduceFold h f a x j = reduceFold h f a y j := by
  unfold reduceFold
  refine List.foldl_ext _ _ _ fun r n hn => ?_
  rw [hxy _ (by simpa using (List.mem_filter.mp hn).2)]

/-- Column `q` of the row the body stores depends on the scale and bias blocks at column `q` only. -/
theorem k1_pay1_congr (v0 : Vec F S1x1x256 .f32) (v6 : Vec F S256x768 .fp8e4m3) (v8 : Vec F S2048x768 .fp8e4m3)
    (v13 v13' v17 v17' : Vec F S1x2048 .f32) (v23 : Elt F .i32) (q : Fin 2048)
    (h13 : v13 (ix2 0 q) = v13' (ix2 0 q)) (h17 : v17 (ix2 0 q) = v17' (ix2 0 q)) :
    k1_pay1 v0 v6 v8 v13 v17 v23 (ix2 0 q) = k1_pay1 v0 v6 v8 v13' v17' v23 (ix2 0 q) := by
  simp only [k1_pay1]
  unfold shapeCast
  generalize hk : (Shape.reshapeEquiv _ (ix2 (0 : Fin 1) q) : S2048.Idx) = k
  have hk' : k = ix1 q := by
    rw [← hk]; pointwise
  rw [hk']
  refine reduceFold_congr reduces_S256x2048_S2048 _ _ _ _ _ fun i hi => ?_
  have h1 : (i 1).val = q.val := by
    have h := congrArg Fin.val (congrFun hi 0)
    rw [Shape.Reduces.drop_apply_val_of_eq _ i 0 1] at h
    exact h
  idx_vars i
  have h1' : i1 = q := Fin.ext h1
  subst h1'
  pointwise
  rw [h13, h17]

/-- The row of `S128x2048` the body stores at grid coordinates `i`, and the position of the length it reads. -/
theorem k1_off1_eq (i : grid1.Coords) : k1_off1 i = ![(i 1).val] := by
  have h : (i 1).val < 128 := (i 1).isLt
  unfold k1_off1
  show ![(Scalar.indexCast (BitVec.ofNat 32 (i 1).val)).toNat] = _
  unfold Scalar.indexCast
  simp
  omega
theorem k1_off2_eq (i : grid1.Coords) : k1_off2 i = ![(i 1).val, 0] := by
  have h : (i 1).val < 128 := (i 1).isLt
  unfold k1_off2
  show ![(Scalar.indexCast (BitVec.ofNat 32 (i 1).val)).toNat, 0] = _
  unfold Scalar.indexCast
  simp
  omega

set_option maxHeartbeats 1000000 in
/-- The body of the decode call on whole buffers at the contents `x0 … x6`: the inputs are kept, and the output's row of the
    document is replaced by the row computed. -/
theorem sound_kernel1 (c : Dev nD) (E : Set ℕ) (i : grid1.Coords) (arg2 : Memref sig .tc .smem S128 .i32) (harg2 : arg2.IsWhole) (arg3 : Memref sig .tc .vmem S256x768 .fp8e4m3) (harg3 : arg3.IsWhole) (arg4 : Memref sig .tc .vmem S1x1x256 .f32) (harg4 : arg4.IsWhole) (arg5 : Memref sig .tc .vmem S2048x768 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S128x2048 .f32) (harg8 : arg8.IsWhole)
    (x0 : Vec F S128 .i32) (x1 : Vec F S256x768 .fp8e4m3) (x2 : Vec F S1x1x256 .f32) (x3 : Vec F S2048x768 .fp8e4m3) (x4 : Vec F S1x2048 .f32) (x5 : Vec F S1x2048 .f32) (x6 : Vec F S128x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ X, ⌜(∀ q : Fin 2048, X (ix2 (⟨(i 1).val, (i 1).isLt⟩ : Fin 128) q) = k1_pay1 x2 x1 x3 x4 x5 (x0 (ix1 (⟨(i 1).val, (i 1).isLt⟩ : Fin 128))) (ix2 0 q))
                ∧ ∀ (r : Fin 128) (q : Fin 2048), r.val ≠ (i 1).val → X (ix2 r q) = x6 (ix2 r q)⌝ ∗ owns (c : Thread nD τ) arg8 fullShare X)) -∗ K ⟨⟩))
      ⊢ wp frame (wpE (defs₀ (F := F)) Variants.none c none) E (cc1_decode i arg2 harg2 arg3 harg3 arg4 harg4 arg5 harg5 arg6 harg6 arg7 harg7 arg8 harg8) K := by
  simp only [cc1_decode_eq_skeleton]; unfold cc1_decode_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _
  isplitr
  swap
  · iexists _; isplitr
    swap; · iexact H6
    ipureintro
    rfl
  ipureintro
  refine ⟨fun q => ?_, fun r q hr => ?_⟩
  · refine (View.read_writes_cons_unit_of_mem arg8.view f6 _ _ _ _ (ix2 (0 : Fin 1) q) (k1_off2_eq i) ?_).trans ?_
    · intro a
      match a with
      | ⟨0, _⟩ => rfl
      | ⟨1, _⟩ => show q.val = 0 + q.val; omega
    · unfold sound_kernel1.sl.r
      have e0 : View.readAt (Elt F) arg2.view (Rect.unit (s := S128) (k1_off1 i) S1.size (k1_off1_inb i)).toLoadRect f0 (Shape.Idx.first numel1_S1.ge)
          = View.read (Elt F) arg2.view f0 (ix1 (⟨(i 1).val, (i 1).isLt⟩ : Fin 128)) := by
        refine congrArg (View.read (Elt F) arg2.view f0) (funext fun a => Fin.ext ?_)
        match a with
        | ⟨0, _⟩ => show k1_off1 i 0 + 1 * 0 = (i 1).val; rw [k1_off1_eq]; rfl
      refine congrFun ?_ _
      refine congr (congr (congr (congr (congr (congrArg _ (View.readAt_full _ _ _)) (View.readAt_full _ _ _)) (View.readAt_full _ _ _)) (View.readAt_full _ _ _)) (View.readAt_full _ _ _)) e0
  · refine (View.read_writes_cons_unit_of_not_mem arg8.view f6 _ _ _ _ (k1_off2_eq i) 0 ?_).trans rfl
    show r.val < (i 1).val ∨ (i 1).val + 1 ≤ r.val
    omega

end Cert.KernelIdeal.Whole

end
-- ==== Proof.KI.Decode.lean ====
/- The decode call at the contents of the buffers it is entered with: what the output tile holds after each grid point,
   and that the body runs at every grid point. The tile's columns past the array's end are never named. -/
module

public import proofs.«01_k».proof.Proof.KI.DecodeBody
public import Idealize.ShloMosaic.Lib.Pipeline.DatRel
public import Idealize.ShloMosaic.Lib.Pipeline.ArrRel
@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

open Idealize.ShloMosaic.Pipeline (BodyObligationRel RDat)

/-! ## The blocks -/

/-- Window `w`'s block at point `t`, read off its array as the region finds it: the part inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scale block at point `t`, its columns past the array's end filled with zeros. -/
def esb (c : Dev nD) (t : Fin cfg1.N) : Vec F S1x2048 .f32 :=
  (cfg1.win 4).fill (cfg1.grid.coords t) (fun _ => Scalar.ofBits .f32 0#32) (iblk1 V c 4 t)
/-- The bias block at point `t`, likewise. -/
def bvb (c : Dev nD) (t : Fin cfg1.N) : Vec F S1x2048 .f32 :=
  (cfg1.win 5).fill (cfg1.grid.coords t) (fun _ => Scalar.ofBits .f32 0#32) (iblk1 V c 5 t)

/-- The grid's points, tile-major: the document of point `t`, -/
def docOf (t : Fin cfg1.N) : Fin 128 := ⟨t.val % 128, Nat.mod_lt _ (by decide)⟩
/-- and its vocabulary tile. -/
def tileOf (t : Fin cfg1.N) : ℕ := t.val / 128

theorem coords1_1 (t : Fin cfg1.N) : (grid1.coords t 1).val = t.val % 128 := by
  have e1 : (grid1.coords t 1).val = t.val / 1 % 128 := Pipeline.Grid.coords_val t 1 (by decide) rfl
  omega
theorem coords1_0 (t : Fin cfg1.N) : (grid1.coords t 0).val = t.val / 128 := by
  have e0 : (grid1.coords t 0).val = t.val / 128 % 15 := Pipeline.Grid.coords_val t 0 (by decide) rfl
  have := t.isLt
  have h : cfg1.N = 1920 := N_1
  omega

/-- The row that the body stores at point `t`: its document's maxima over one vocabulary tile. -/
def rowAt (c : Dev nD) (t : Fin cfg1.N) : Vec F S1x2048 .f32 :=
  k1_pay1 (iblk1 V c 2 t) (iblk1 V c 1 t) (iblk1 V c 3 t) (esb V c t) (bvb V c t)
    (iblk1 V c 0 t (ix1 (docOf t)))

theorem pt_lt (t : Fin cfg1.N) (b : Fin 128) : t.val / 128 * 128 + b.val < cfg1.N := by
  have := t.isLt
  have h : cfg1.N = 1920 := N_1
  have := b.isLt
  omega

/-- The whole vocabulary tile of point `t`, every document's row in it. -/
def fullTile (c : Dev nD) (t : Fin cfg1.N) : Vec F S128x2048 .f32 := fun j =>
  rowAt V c ⟨t.val / 128 * 128 + (j 0).val, pt_lt t (j 0)⟩ (ix2 0 (j 1))

/-! ## The proof data -/

/-- The exact part of the proof data: the inputs' buffers hold their blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => esb V c t
    | ⟨5, _⟩ => bvb V c t
    | ⟨6, _⟩ => fullTile V c t
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = esb V c t := by dsimp only [dat1]
theorem after1_6 (c : Dev nD) (t : Fin cfg1.N) : (dat1 V c).after 6 t = fullTile V c t := by dsimp only [dat1]
theorem after1_5 (c : Dev nD) (t : Fin cfg1.N) : (dat1 V c).after 5 t = bvb V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- A clipped input's buffer holds its block on the columns inside the array, and anything past them. -/
theorem before1_4 (c : Dev nD) (t : Fin cfg1.N) (d) : (dat1 V c).before 4 t d = (cfg1.win 4).fill (cfg1.grid.coords t) d (iblk1 V c 4 t) :=
  ((dat1 V c).before_in_eq_fetched 4 rfl (fun _ => rfl)
    (fun t t' h => funext fun a => congrArg (fun f : Fin 2 → ℕ => Pipeline.Clip.of (f a) (S1x2048.size a) (S1x30522.size a)) h)
    (fun t => by rw [after1_4]; unfold Dat.blockOf esb iblk1; rw [A_eq1, Window.cut_fill]) t d).trans
    (by unfold Dat.fetched Dat.blockOf iblk1; rw [A_eq1]; try rfl)
/-- A clipped input's buffer holds its block on the columns inside the array, and anything past them. -/
theorem before1_5 (c : Dev nD) (t : Fin cfg1.N) (d) : (dat1 V c).before 5 t d = (cfg1.win 5).fill (cfg1.grid.coords t) d (iblk1 V c 5 t) :=
  ((dat1 V c).before_in_eq_fetched 5 rfl (fun _ => rfl)
    (fun t t' h => funext fun a => congrArg (fun f : Fin 2 → ℕ => Pipeline.Clip.of (f a) (S1x2048.size a) (S1x30522.size a)) h)
    (fun t => by rw [after1_5]; unfold Dat.blockOf bvb iblk1; rw [A_eq1, Window.cut_fill]) t d).trans
    (by unfold Dat.fetched Dat.blockOf iblk1; rw [A_eq1]; try rfl)

/-- A column inside the array is among those that a clipped transfer moves. -/
theorem lt_extent {ix k d j : ℕ} (hj : j < k) (h : ix * k + j < d) : j < (Pipeline.Clip.of ix k d).extent k := by
  unfold Pipeline.Clip.of
  split
  · exact hj
  · show j < d - ix * k
    omega

/-- Two fills of a clipped row agree at the columns inside the array. -/
theorem fill4_congr (t : Fin cfg1.N) (d d' : Vec F S1x2048 .f32) (g) (q : Fin 2048) (hq : t.val / 128 * 2048 + q.val < 30522) :
    (cfg1.win 4).fill (cfg1.grid.coords t) d g (ix2 0 q) = (cfg1.win 4).fill (cfg1.grid.coords t) d' g (ix2 0 q) := by
  have h : (cfg1.win 4).moved (cfg1.grid.coords t) (ix2 0 q) = true := by
    rw [Window.moved_iff]
    intro a
    match a with
    | ⟨0, _⟩ => exact lt_extent (ix := 0) (k := 1) (d := 1) (j := 0) (by decide) (by decide)
    | ⟨1, _⟩ =>
      refine lt_extent (ix := cc1_transform_4 (grid1.coords t) 1) (k := 2048) (d := 30522) (j := q.val) q.isLt ?_
      have e : cc1_transform_4 (grid1.coords t) 1 = (BitVec.ofNat 32 (grid1.coords t 0).val).toNat := rfl
      rw [e, coords1_0, BitVec.toNat_ofNat]
      have := t.isLt
      have h : cfg1.N = 1920 := N_1
      omega
  unfold Window.fill
  rw [dif_pos h, dif_pos h]
/-- Two fills of a clipped row agree at the columns inside the array. -/
theorem fill5_congr (t : Fin cfg1.N) (d d' : Vec F S1x2048 .f32) (g) (q : Fin 2048) (hq : t.val / 128 * 2048 + q.val < 30522) :
    (cfg1.win 5).fill (cfg1.grid.coords t) d g (ix2 0 q) = (cfg1.win 5).fill (cfg1.grid.coords t) d' g (ix2 0 q) := by
  have h : (cfg1.win 5).moved (cfg1.grid.coords t) (ix2 0 q) = true := by
    rw [Window.moved_iff]
    intro a
    match a with
    | ⟨0, _⟩ => exact lt_extent (ix := 0) (k := 1) (d := 1) (j := 0) (by decide) (by decide)
    | ⟨1, _⟩ =>
      refine lt_extent (ix := cc1_transform_5 (grid1.coords t) 1) (k := 2048) (d := 30522) (j := q.val) q.isLt ?_
      have e : cc1_transform_5 (grid1.coords t) 1 = (BitVec.ofNat 32 (grid1.coords t 0).val).toNat := rfl
      rw [e, coords1_0, BitVec.toNat_ofNat]
      have := t.isLt
      have h : cfg1.N = 1920 := N_1
      omega
  unfold Window.fill
  rw [dif_pos h, dif_pos h]

/-! ## The body obligation -/

/-- Only the output window is held to a relation. -/
def fgt1 : Fin cfg1.W → Bool := fun | ⟨0, _⟩ => false | ⟨1, _⟩ => false | ⟨2, _⟩ => false | ⟨3, _⟩ => false | ⟨4, _⟩ => false | ⟨5, _⟩ => false | ⟨6, _⟩ => true

/-- What the output tile holds after point `t`: the rows of the documents done so far, on the columns inside the array. -/
def Tile (c : Dev nD) (t : Fin cfg1.N) (X : Vec F S128x2048 .f32) : Prop :=
  ∀ u : Fin cfg1.N, u.val / 128 = t.val / 128 → u.val ≤ t.val → ∀ q : Fin 2048, t.val / 128 * 2048 + q.val < 30522 →
    X (ix2 (docOf u) q) = rowAt V c u (ix2 0 q)

def Rl1 (c : Dev nD) : (w : Fin cfg1.W) → Fin cfg1.N → ((cfg1.win w).block.Idx → Elt F (cfg1.win w).elt) → Prop := fun w t => match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => Tile V c t X

/-- The decode region's proof data. -/
def rdat1 (c : Dev nD) : RDat τ (Elt F) Unit ℕ (UR sig nD τ) ℕ cfg1 c := (dat1 V c).toRRel fgt1 (Rl1 V c)

theorem fetch1_6 (t : Fin cfg1.N) : (cfg1.win 6).fetch t = false := rfl

/-- What the output buffer may hold when the body runs at `t`: within a tile, what the previous point left. -/
theorem finds1_6 (c : Dev nD) (t : Fin cfg1.N) (Y : Vec F S128x2048 .f32) (h : (rdat1 V c).Finds 6 t Y)
    (u : Fin cfg1.N) (hu : u.val / 128 = t.val / 128) (hlt : u.val < t.val) (q : Fin 2048) (hq : t.val / 128 * 2048 + q.val < 30522) :
    Y (ix2 (docOf u) q) = rowAt V c u (ix2 0 q) := by
  have ht : t.val ≠ 0 := by omega
  rw [RDat.finds_of_pos _ (fetch1_6 t) ht] at h
  rcases h with h | h
  · rw [flush1_6] at h
    have h' : (t.val - 1) % 128 = 127 := h
    omega
  · have hT : Tile V c ⟨t.val - 1, Nat.lt_of_le_of_lt (Nat.sub_le _ _) t.isLt⟩ Y := (dat1 V c).toRRel_leaves (fgt := fgt1) (Rl := Rl1 V c) (w := 6) rfl h
    have e : (t.val - 1) / 128 = t.val / 128 := by omega
    exact hT u (by show u.val / 128 = (t.val - 1) / 128; omega) (by show u.val ≤ t.val - 1; omega) q (by show (t.val - 1) / 128 * 2048 + q.val < 30522; rw [e]; exact hq)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ Y, ⌜(rdat1 V c).Finds 6 t Y⌝ ∗ owns (c : Thread nD τ) (st1_6 t) fullShare Y))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (∃ d, owns (c : Thread nD τ) (st1_4 t) fullShare ((cfg1.win 4).fill (cfg1.grid.coords t) d ((cfg1.win 4).cut (cfg1.grid.coords t) ((dat1 V c).after 4 t))))
    ∗ (∃ d, owns (c : Thread nD τ) (st1_5 t) fullShare ((cfg1.win 5).fill (cfg1.grid.coords t) d ((cfg1.win 5).cut (cfg1.grid.coords t) ((dat1 V c).after 5 t))))
    ∗ (∃ X, ⌜Tile V c t X⌝ ∗ owns (c : Thread nD τ) (st1_6 t) fullShare X))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have h4 : (cfg1.win 4).cut (cfg1.grid.coords t) (esb V c t) = iblk1 V c 4 t := by unfold esb; rw [Window.cut_fill]
  have h5 : (cfg1.win 5).cut (cfg1.grid.coords t) (bvb V c t) = iblk1 V c 5 t := by unfold bvb; rw [Window.cut_fill]
  rw [h4, h5]
  iintro ⟨HΦ, Ho, ⟨%d0, H0⟩, ⟨%d1, H1⟩, ⟨%d2, H2⟩, ⟨%d3, H3⟩, ⟨%d4, H4⟩, ⟨%d5, H5⟩, ⟨%Y, %hY, H6⟩⟩
  iapply (sound_kernel1 c Set.univ (grid1.coords t) _ _ _ _ _ _ _ _ _ _ _ _ _ _ (iblk1 V c 0 t) (iblk1 V c 1 t) (iblk1 V c 2 t) (iblk1 V c 3 t) ((cfg1.win 4).fill (cfg1.grid.coords t) d4 (iblk1 V c 4 t)) ((cfg1.win 5).fill (cfg1.grid.coords t) d5 (iblk1 V c 5 t)) Y _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, ⟨%X, %hX, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexists d4; iexact H4
  isplitl [H5]; · iexists d5; iexact H5
  iexists X
  isplitr
  · ipureintro
    obtain ⟨hX1, hX2⟩ := hX
    have hb : (grid1.coords t 1).val = t.val % 128 := coords1_1 t
    have hd : (⟨(grid1.coords t 1).val, (grid1.coords t 1).isLt⟩ : Fin 128) = docOf t := Fin.ext hb
    intro u hu hle q hq
    by_cases hut : u = t
    · subst hut
      have := hX1 q
      rw [hd] at this
      refine this.trans ?_
      exact k1_pay1_congr _ _ _ _ _ _ _ _ q (fill4_congr u _ _ _ q hq) (fill5_congr u _ _ _ q hq)
    · have hlt : u.val < t.val := lt_of_le_of_ne hle fun e => hut (Fin.ext e)
      rw [hX2 (docOf u) q (by rw [hb]; show u.val % 128 ≠ t.val % 128; omega)]
      exact finds1_6 V c t Y hY u hu hlt q hq
  iexact H6

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : (rdat1 (F := F) V c).BodyObligation (defs₀ (F := F)) Variants.none () Set.univ :=
  Pipeline.BodyObligationRel.toRRel (dat := dat1 V c) fun t => by
    rw [bigSep_W1, bigSep_W1, defs₀_row1]
    exact triple_restated (sound_body1 V c t) rfl .rfl fun _ => .rfl

/-! ## What the arrays hold at the end -/

/-- Two exact data with the same array and the same moved parts at the points that write back leave the same array. -/
theorem arrAt_congr_cut {cfg : Cfg sig Λ₀} {c : Dev nD} (d d' : Dat τ (Elt F) Unit ℕ (UR sig nD τ) ℕ cfg c) (w : Fin cfg.W) (hA : d.A w = d'.A w)
    (h : ∀ u : Fin cfg.N, (cfg.win w).flush u = true → (cfg.win w).cut (cfg.grid.coords u) (d.after w u) = (cfg.win w).cut (cfg.grid.coords u) (d'.after w u)) :
    ∀ n, d.arrAt w n = d'.arrAt w n
  | 0 => hA
  | n + 1 => by
    by_cases hn : n < cfg.N
    · have e := d.arrAt_succ w ⟨n, hn⟩
      have e' := d'.arrAt_succ w ⟨n, hn⟩
      have ih := arrAt_congr_cut d d' w hA h n
      by_cases hf : (cfg.win w).flush ⟨n, hn⟩ = true
      · rw [if_pos hf] at e e'
        rw [show n + 1 = (⟨n, hn⟩ : Fin cfg.N).val + 1 from rfl, e, e']
        show ((cfg.win w).blk ⟨n, hn⟩).view.write _ (d.arrAt w n) ((cfg.win w).cut (cfg.grid.coords ⟨n, hn⟩) (d.after w ⟨n, hn⟩)) Finset.univ
          = ((cfg.win w).blk ⟨n, hn⟩).view.write _ (d'.arrAt w n) ((cfg.win w).cut (cfg.grid.coords ⟨n, hn⟩) (d'.after w ⟨n, hn⟩)) Finset.univ
        rw [ih, h _ hf]
      · rw [if_neg hf] at e e'
        rw [show n + 1 = (⟨n, hn⟩ : Fin cfg.N).val + 1 from rfl, e, e']
        exact ih
    · have hN : cfg.N ≤ n := Nat.not_lt.mp hn
      rw [d.arrAt_stable w (n + 1) (Nat.le_succ_of_le hN), d'.arrAt_stable w (n + 1) (Nat.le_succ_of_le hN), ← d.arrAt_stable w n hN, ← d'.arrAt_stable w n hN]
      exact arrAt_congr_cut d d' w hA h n

/-- The moved part of a written-back tile is that of the full one. -/
theorem cut_tile (c : Dev nD) (t : Fin cfg1.N) (ht : t.val % 128 = 127) (X : Vec F S128x2048 .f32) (hX : Tile V c t X) :
    (cfg1.win 6).cut (cfg1.grid.coords t) X = (cfg1.win 6).cut (cfg1.grid.coords t) (fullTile V c t) := by
  have hN : cfg1.N = 1920 := N_1
  have htl := t.isLt
  funext j
  have h0 : (j 0).val < 128 := Nat.lt_of_lt_of_le (j 0).isLt ((cfg1.win 6).xsize_le (cfg1.grid.coords t) 0)
  have h1 : (j 1).val < 2048 := Nat.lt_of_lt_of_le (j 1).isLt ((cfg1.win 6).xsize_le (cfg1.grid.coords t) 1)
  have hin : t.val / 128 * 2048 + (j 1).val < 30522 := by
    have hi : cc1_transform_6 (grid1.coords t) 1 * 2048 + (Pipeline.Clip.of (cc1_transform_6 (grid1.coords t) 1) 2048 30522).extent 2048 ≤ 30522 :=
      Pipeline.Clip.inb (Pipeline.Clip.ok_of (hstart1_6 (grid1.coords t) 1))
    have hj : (j 1).val < (Pipeline.Clip.of (cc1_transform_6 (grid1.coords t) 1) 2048 30522).extent 2048 := (j 1).isLt
    have e : cc1_transform_6 (grid1.coords t) 1 = (BitVec.ofNat 32 (grid1.coords t 0).val).toNat := rfl
    rw [e, coords1_0, BitVec.toNat_ofNat, Nat.mod_eq_of_lt (by omega)] at hi hj
    omega
  have ej : (cfg1.win 6).xinj (cfg1.grid.coords t) j = (ix2 (⟨(j 0).val, h0⟩ : Fin 128) (⟨(j 1).val, h1⟩ : Fin 2048) : S128x2048.Idx) := by
    funext a
    match a with
    | ⟨0, _⟩ => rfl
    | ⟨1, _⟩ => rfl
  show X ((cfg1.win 6).xinj (cfg1.grid.coords t) j) = fullTile V c t ((cfg1.win 6).xinj (cfg1.grid.coords t) j)
  rw [ej]
  have hu := hX ⟨t.val / 128 * 128 + (j 0).val, by omega⟩ (by show (t.val / 128 * 128 + (j 0).val) / 128 = t.val / 128; omega)
    (by show t.val / 128 * 128 + (j 0).val ≤ t.val; omega) ⟨(j 1).val, h1⟩ hin
  have ed : docOf ⟨t.val / 128 * 128 + (j 0).val, by omega⟩ = (⟨(j 0).val, h0⟩ : Fin 128) :=
    Fin.ext (by show (t.val / 128 * 128 + (j 0).val) % 128 = (j 0).val; omega)
  rw [ed] at hu
  exact hu

theorem isOut1 (w : Fin cfg1.W) (h : w ≠ 6) : (cfg1.win w).isOut = false := by
  match w, h with
  | ⟨0, _⟩, _ => rfl
  | ⟨1, _⟩, _ => rfl
  | ⟨2, _⟩, _ => rfl
  | ⟨3, _⟩, _ => rfl
  | ⟨4, _⟩, _ => rfl
  | ⟨5, _⟩, _ => rfl
  | ⟨6, _⟩, h => exact absurd rfl h

/-- Whatever the region may leave in an array is what the exact data name. -/
theorem arrAt1 (c : Dev nD) (w : Fin cfg1.W) (G) (hG : (rdat1 V c).ArrAt w cfg1.N G) : G = (dat1 V c).arrAt w cfg1.N := by
  obtain ⟨X, hX, hA⟩ := hG.exists_exact
  have e := hA (Function.update (dat1 V c).after w X) fun u _ _ => by rw [Function.update_self]
  rw [e]
  by_cases h6 : w = 6
  · subst h6
    refine arrAt_congr_cut ((rdat1 V c).withAfter (Function.update (dat1 V c).after 6 X)) (dat1 V c) 6 rfl (fun u hf => ?_) _
    have hT : Tile V c u (X u) := (dat1 V c).toRRel_leaves (fgt := fgt1) (Rl := Rl1 V c) (w := 6) rfl (hX u u.isLt hf)
    rw [RDat.withAfter_after, Function.update_self, after1_6]
    exact cut_tile V c u ((flush1_6 u).mp hf) (X u) hT
  · have hi : (cfg1.win w).isOut = false := isOut1 w h6
    rw [Dat.arrAt_in _ w hi, Dat.arrAt_in _ w hi]
    rfl

/-- The region's arrays, at its exit, at the contents the exact data name. -/
theorem arraysAt1 (c : Dev nD) : (rdat1 V c).arraysAt cfg1.N ⊢ ((dat1 V c).arrays ((dat1 V c).arrAt · cfg1.N) : sProp 𝕄) := by
  unfold RDat.arraysAt Dat.arrays
  refine BI.bigSep_mono fun w _ => ?_
  show (iprop(∃ G, ⌜(rdat1 V c).ArrAt w cfg1.N G⌝ ∗ (cfg1.win w).arr.view.loc (c.tc : Thread nD τ) ↦[(cfg1.win w).arr.view.set]{(dat1 V c).share w} G) : sProp 𝕄)
    ⊢ ((cfg1.win w).arr.view.loc (c.tc : Thread nD τ) ↦[(cfg1.win w).arr.view.set]{(dat1 V c).share w} ((dat1 V c).arrAt w cfg1.N) : sProp 𝕄)
  iintro ⟨%G, %hG, H⟩
  rw [arrAt1 V c w G hG]
  iexact H

end Cert.KernelIdeal.Whole

end
-- ==== Proof.KI.FinalizeConds.lean ====
/- The finalize call at the contents of the buffers it is entered with: its blocks, and which points take which branch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := k2_cond1 i = 1#1
/-- It holds at the first point only — by arithmetic of the point. -/
theorem hcond2_0 : ∀ t : Fin cfg2.N, cond2_0 (grid2.coords t) ↔ t.val % 4 = 0 :=
  (fun t => by
    have ht : t.val < 4 := Nat.lt_of_lt_of_eq t.isLt N_2
    have e0 : (grid2.coords t 0).val = t.val / 1 % 4 := Pipeline.Grid.coords_val t 0 (by decide) rfl
    simp only [cond2_0, k2_cond1, e0]
    word_cmp
   : ∀ t : Fin grid2.N, cond2_0 (grid2.coords t) ↔ t.val % 4 = 0)

/-- The condition of the body's `scf.if` 1 (`k2_h2`), from the grid coordinates (the skeleton's scalar
    chain substituted). -/
abbrev cond2_1 (i : grid2.Coords) : Prop := k2_cond2 i = 1#1
/-- It holds at the points from point 1 on — decided over the grid. -/
theorem hcond2_1 : ∀ t : Fin cfg2.N, cond2_1 (grid2.coords t) ↔ 1 ≤ t.val :=
  (by decide +kernel : ∀ t : Fin grid2.N, cond2_1 (grid2.coords t) ↔ 1 ≤ t.val)

/-- The condition of the body's `scf.if` 2 (`k2_h3`), from the grid coordinates (the skeleton's scalar
    chain substituted). -/
abbrev cond2_2 (i : grid2.Coords) : Prop := k2_cond3 i = 1#1
/-- It holds at the last point only — by arithmetic of the point. -/
theorem hcond2_2 : ∀ t : Fin cfg2.N, cond2_2 (grid2.coords t) ↔ t.val % 4 = 3 :=
  (fun t => by
    have ht : t.val < 4 := Nat.lt_of_lt_of_eq t.isLt N_2
    have e0 : (grid2.coords t 0).val = t.val / 1 % 4 := Pipeline.Grid.coords_val t 0 (by decide) rfl
    simp only [cond2_2, k2_cond3, e0]
    word_cmp
   : ∀ t : Fin grid2.N, cond2_2 (grid2.coords t) ↔ t.val % 4 = 3)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an output stored at every point, under no condition). -/
theorem liveAt2_1 : ∀ t : Fin cfg2.N, cfg2.idle 1 (grid2.coords t) = false := fun _ => rfl
/-- Window 2 is never idle (an output stored at every point, under no condition). -/
theorem liveAt2_2 : ∀ t : Fin cfg2.N, cfg2.idle 2 (grid2.coords t) = false := fun _ => rfl
/-- Window 5 is never idle (an output stored at every point, under no condition). -/
theorem liveAt2_5 : ∀ t : Fin cfg2.N, cfg2.idle 5 (grid2.coords t) = false := fun _ => rfl
/-- Window 6 is never idle (an output stored at every point, under no condition). -/
theorem liveAt2_6 : ∀ t : Fin cfg2.N, cfg2.idle 6 (grid2.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab2_3_step` checks it against the configuration's own
    step point by point and Lib/Pipeline/TableIdle.lean `Cfg.fresh_tab` makes it `Cfg.fresh` (`fresh2_3_eq`). -/
def freshTab2_3 : ℕ → Bool
  | 0 => true
  | n + 1 => (0x8 : ℕ).testBit n
theorem freshTab2_3_step : ∀ t : Fin cfg2.N,
    freshTab2_3 (t.val + 1) = ((cfg2.win 3).flush t || (cfg2.idle 3 (cfg2.grid.coords t) && freshTab2_3 t.val)) := by decide +kernel
theorem fresh2_3_eq (t : Fin cfg2.N) : cfg2.fresh 3 t.val = freshTab2_3 t.val :=
  Pipeline.Cfg.fresh_tab cfg2 3 freshTab2_3 rfl freshTab2_3_step t.val (Nat.le_of_lt t.isLt)
/-- At the points of case A the printed configuration (`Cfg.idle`) calls output 3 live: the case stores into it. -/
theorem liveAt2_3_A : ∀ t : Fin cfg2.N, cond2_0 (grid2.coords t) → ¬cond2_1 (grid2.coords t) → ¬cond2_2 (grid2.coords t) → cfg2.idle 3 (grid2.coords t) = false := by decide +kernel
/-- At the points of case B the printed configuration (`Cfg.idle`) calls output 3 live: the case stores into it. -/
theorem liveAt2_3_B : ∀ t : Fin cfg2.N, ¬cond2_0 (grid2.coords t) → cond2_1 (grid2.coords t) → ¬cond2_2 (grid2.coords t) → cfg2.idle 3 (grid2.coords t) = false := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab2_3`). -/
theorem notFresh2_3_B : ∀ t : Fin cfg2.N, ¬cond2_0 (grid2.coords t) → cond2_1 (grid2.coords t) → ¬cond2_2 (grid2.coords t) → cfg2.fresh 3 t.val = false := by
  intro t; rw [fresh2_3_eq t]; revert t; decide +kernel
/-- At the points of case C the printed configuration (`Cfg.idle`) calls output 3 live: the case stores into it. -/
theorem liveAt2_3_C : ∀ t : Fin cfg2.N, ¬cond2_0 (grid2.coords t) → cond2_1 (grid2.coords t) → cond2_2 (grid2.coords t) → cfg2.idle 3 (grid2.coords t) = false := by decide +kernel
/-- At the points of case C, which keeps output 3's prior contents (reads it before covering, or covers it in part), the
    window's buffer is not FRESH: something was stored into it since the region's entry or its last write-back, idle points
    between or not (Lib/Pipeline/TableIdle.lean `Cfg.fresh`, by the table `freshTab2_3`). -/
theorem notFresh2_3_C : ∀ t : Fin cfg2.N, ¬cond2_0 (grid2.coords t) → cond2_1 (grid2.coords t) → cond2_2 (grid2.coords t) → cfg2.fresh 3 t.val = false := by
  intro t; rw [fresh2_3_eq t]; revert t; decide +kernel
/-- At the points of case A the printed configuration (`Cfg.idle`) calls output 4 idle: the case stores nothing into it. -/
theorem idleAt2_4_A : ∀ t : Fin cfg2.N, cond2_0 (grid2.coords t) → ¬cond2_1 (grid2.coords t) → ¬cond2_2 (grid2.coords t) → cfg2.idle 4 (grid2.coords t) = true := by decide +kernel
/-- At the points of case A the pipeline does not write output 4's block back. -/
theorem noFlush2_4_A : ∀ t : Fin cfg2.N, cond2_0 (grid2.coords t) → ¬cond2_1 (grid2.coords t) → ¬cond2_2 (grid2.coords t) → (cfg2.win 4).flush t = false := by decide +kernel
/-- At the points of case B the printed configuration (`Cfg.idle`) calls output 4 idle: the case stores nothing into it. -/
theorem idleAt2_4_B : ∀ t : Fin cfg2.N, ¬cond2_0 (grid2.coords t) → cond2_1 (grid2.coords t) → ¬cond2_2 (grid2.coords t) → cfg2.idle 4 (grid2.coords t) = true := by decide +kernel
/-- At the points of case B the pipeline does not write output 4's block back. -/
theorem noFlush2_4_B : ∀ t : Fin cfg2.N, ¬cond2_0 (grid2.coords t) → cond2_1 (grid2.coords t) → ¬cond2_2 (grid2.coords t) → (cfg2.win 4).flush t = false := by decide +kernel
/-- At the points of case C the printed configuration (`Cfg.idle`) calls output 4 live: the case stores into it. -/
theorem liveAt2_4_C : ∀ t : Fin cfg2.N, ¬cond2_0 (grid2.coords t) → cond2_1 (grid2.coords t) → cond2_2 (grid2.coords t) → cfg2.idle 4 (grid2.coords t) = false := by decide +kernel

/-! ## The kernel body on any staging memrefs: a subtype the run finds -/

/-- One staging buffer of output window 1, through which its contents are stated (`View.read_writes_of_cover`: the
    choice does not matter). -/
abbrev VO2_1 : View sig .tc .vmem S32x30522 .f32 := (Memref.whole cc2_stg1_0 : Memref sig .tc .vmem S32x30522 .f32).view
/-- One staging buffer of output window 2, through which its contents are stated (`View.read_writes_of_cover`: the
    choice does not matter). -/
abbrev VO2_2 : View sig .tc .vmem S32x128 .f32 := (Memref.whole cc2_stg2_0 : Memref sig .tc .vmem S32x128 .f32).view
/-- One staging buffer of output window 3, through which its contents are stated (`View.read_writes_of_cover`: the
    choice does not matter). -/
abbrev VO2_3 : View sig .tc .vmem S1x30522 .f32 := (Memref.whole cc2_stg3_0 : Memref sig .tc .vmem S1x30522 .f32).view
/-- One staging buffer of output window 4, through which its contents are stated (`View.read_writes_of_cover`: the
    choice does not matter). -/
abbrev VO2_4 : View sig .tc .vmem S1x128 .f32 := (Memref.whole cc2_stg4_0 : Memref sig .tc .vmem S1x128 .f32).view
/-- One staging buffer of output window 5, through which its contents are stated (`View.read_writes_of_cover`: the
    choice does not matter). -/
abbrev VO2_5 : View sig .tc .vmem S32x30522 .i8 := (Memref.whole cc2_stg5_0 : Memref sig .tc .vmem S32x30522 .i8).view
/-- One staging buffer of output window 6, through which its contents are stated (`View.read_writes_of_cover`: the
    choice does not matter). -/
abbrev VO2_6 : View sig .tc .vmem S32x128 .f32 := (Memref.whole cc2_stg6_0 : Memref sig .tc .vmem S32x128 .f32).view
/-- Each window's current staging memref at point `t`, spelled as the pipeline passes it (`bodyAt2`), and its wholeness. -/
abbrev ms2_0 (t : Fin cfg2.N) : Memref sig .tc .vmem S32x30522 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S32x30522 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x30522 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S32x30522 .i8 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S32x128 .f32 := win2_6.stage (cfg2.slots t 6)
abbrev hs2_6 (t : Fin cfg2.N) : (ms2_6 t).IsWhole := hstage2_6 ((cfg2.slots t 6).cast nbuf2_6)

end Cert.KernelIdeal.Whole

end
-- ==== Proof.KI.FinalizeRunA.lean ====
/- The body of the finalize call at the first point(s) of its grid. -/
module

public import proofs.«01_k».proof.Proof.KI.FinalizeConds

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the outputs it leaves idle (4: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) :
    Σ' (L1 : List (View.Piece (Elt F) S32x30522 .f32)), Σ' (L2 : List (View.Piece (Elt F) S32x128 .f32)), Σ' (L3 : List (View.Piece (Elt F) S1x30522 .f32)), Σ' (L4 : List (View.Piece (Elt F) S1x128 .f32)), Σ' (L5 : List (View.Piece (Elt F) S32x30522 .i8)), { L6 : List (View.Piece (Elt F) S32x128 .f32) //
      ∀ (xi4 : Vec F S1x128 .f32) (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc2_finalize i arg1 harg1 arg2 harg2 arg3 harg3 arg4 harg4 arg5 harg5 arg6 harg6 arg7 harg7) K } := by
  refine ⟨?_, ?_, ?_, [], ?_, ?_, fun xi4 E K => ?run⟩
  case run =>
    simp only [cc2_finalize_eq_skeleton]; unfold cc2_finalize_skel
    simp only [k2_part1_eq_skeleton]
    unfold owns
    iintro ⟨⟨%f0, %hf0, H0⟩, ⟨%d1, %f1, -, H1⟩, ⟨%d2, %f2, -, H2⟩, ⟨%d3, %f3, -, H3⟩, ⟨%f4, %hf4, H4⟩, ⟨%d5, %f5, -, H5⟩, ⟨%d6, %f6, -, H6⟩, Hk⟩
    obtain rfl := harg1.eq_unread hf0; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]
    · iexists _; isplitr; · ipureintro; exact harg5.read_unread _
      iexact H4
    isplitl [H5]; · iexists _; iexact H5
    iexists _; iexact H6

end Cert.KernelIdeal.Whole

end
-- ==== Proof.KI.FinalizeRunB.lean ====
/- The body of the finalize call at the middle point(s) of its grid. -/
module

public import proofs.«01_k».proof.Proof.KI.FinalizeRunA

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2), WITH the
    proof that on whole staging memrefs — the inputs' at their contents, the outputs it reads before covering (3) at their running contents `xo·`, the outputs it leaves idle (4: no store, the window idle and not written back at the case's points) at contents `xi·` handed back untouched, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) :
    Σ' (L1 : List (View.Piece (Elt F) S32x30522 .f32)), Σ' (L2 : List (View.Piece (Elt F) S32x128 .f32)), Σ' (L3 : List (View.Piece (Elt F) S1x30522 .f32)), Σ' (L4 : List (View.Piece (Elt F) S1x128 .f32)), Σ' (L5 : List (View.Piece (Elt F) S32x30522 .i8)), { L6 : List (View.Piece (Elt F) S32x128 .f32) //
      ∀ (xi4 : Vec F S1x128 .f32) (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xo3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare xi4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc2_finalize i arg1 harg1 arg2 harg2 arg3 harg3 arg4 harg4 arg5 harg5 arg6 harg6 arg7 harg7) K } := by
  refine ⟨?_, ?_, ?_, [], ?_, ?_, fun xi4 E K => ?run⟩
  case run =>
    simp only [cc2_finalize_eq_skeleton]; unfold cc2_finalize_skel
    simp only [k2_part1_eq_skeleton]
    unfold owns
    iintro ⟨⟨%f0, %hf0, H0⟩, ⟨%d1, %f1, -, H1⟩, ⟨%d2, %f2, -, H2⟩, ⟨%f3, %hf3, H3⟩, ⟨%f4, %hf4, H4⟩, ⟨%d5, %f5, -, H5⟩, ⟨%d6, %f6, -, H6⟩, Hk⟩
    obtain rfl := harg1.eq_unread hf0; obtain rfl := harg4.eq_unread hf3; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]
    · iexists _; isplitr; · ipureintro; exact harg5.read_unread _
      iexact H4
    isplitl [H5]; · iexists _; iexact H5
    iexists _; iexact H6

end Cert.KernelIdeal.Whole

end
-- ==== Proof.KI.FinalizeRunC.lean ====
/- The body of the finalize call at the last point(s) of its grid. -/
module

public import proofs.«01_k».proof.Proof.KI.FinalizeRunB

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 3), WITH the
    proof that on whole staging memrefs — the inputs' at their contents, the outputs it reads before covering (3) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) :
    Σ' (L1 : List (View.Piece (Elt F) S32x30522 .f32)), Σ' (L2 : List (View.Piece (Elt F) S32x128 .f32)), Σ' (L3 : List (View.Piece (Elt F) S1x30522 .f32)), Σ' (L4 : List (View.Piece (Elt F) S1x128 .f32)), Σ' (L5 : List (View.Piece (Elt F) S32x30522 .i8)), { L6 : List (View.Piece (Elt F) S32x128 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xo3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc2_finalize i arg1 harg1 arg2 harg2 arg3 harg3 arg4 harg4 arg5 harg5 arg6 harg6 arg7 harg7) K } := by
  refine ⟨?_, ?_, ?_, ?_, ?_, ?_, fun E K => ?run⟩
  case run =>
    simp only [cc2_finalize_eq_skeleton]; unfold cc2_finalize_skel
    simp only [k2_part1_eq_skeleton]
    unfold owns
    iintro ⟨⟨%f0, %hf0, H0⟩, ⟨%d1, %f1, -, H1⟩, ⟨%d2, %f2, -, H2⟩, ⟨%f3, %hf3, H3⟩, ⟨%d4, %f4, -, H4⟩, ⟨%d5, %f5, -, H5⟩, ⟨%d6, %f6, -, H6⟩, Hk⟩
    obtain rfl := harg1.eq_unread hf0; obtain rfl := harg4.eq_unread hf3
    sl_exec (disch := first | sl_exact hc0 | sl_exact hc1 | sl_exact hc2)
    sl_step
    iapply Hk
    isplitl [H0]
    · iexists _; isplitr; · ipureintro; exact harg1.read_unread _
      iexact H0
    isplitl [H1]; · iexists _; iexact H1
    isplitl [H2]; · iexists _; iexact H2
    isplitl [H3]; · iexists _; iexact H3
    isplitl [H4]; · iexists _; iexact H4
    isplitl [H5]; · iexists _; iexact H5
    iexists _; iexact H6

end Cert.KernelIdeal.Whole

end
-- ==== Proof.KI.Finalize.lean ====
/- The finalize call at the contents of the buffers it is entered with: what its outputs hold point by point, and that its body runs at every grid point. -/
module

public import proofs.«01_k».proof.Proof.KI.FinalizeRunC
public import Idealize.ShloMosaic.Lib.Claim

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

/-- Case A's pieces for output 1 tile its block (1 store of `S32x30522`, checked by the kernel's evaluation: Lib/Ring.lean `Piece.tiledL`, linear in the pieces, through a loop's `@[irreducible]` trip theorem too), so they cover it. -/
theorem cover2_A_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) (y : S32x30522.Idx) :
    ∃ pc ∈ (kernelRun2_A c i arg1 harg1 arg2 harg2 arg3 harg3 arg4 harg4 arg5 harg5 arg6 harg6 arg7 harg7 hc0 hc1 hc2 x0).1, y ∈ pc.1.set :=
  View.cover_of_tiledL (kernelRun2_A c i arg1 harg1 arg2 harg2 arg3 harg3 arg4 harg4 arg5 harg5 arg6 harg6 arg7 harg7 hc0 hc1 hc2 x0).1 S32x30522.size (by sl_kernel_rfl) y

/-- What case A leaves in output 1's staging buffer: its pieces read back over junk. -/
def out2_A_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S32x30522 .f32 :=
  VO2_1.read (Elt F) (VO2_1.writes (Elt F) VO2_1.junk (kernelRun2_A c i arg1 harg1 arg2 harg2 arg3 harg3 arg4 harg4 arg5 harg5 arg6 harg6 arg7 harg7 hc0 hc1 hc2 x0).1)

/-- Case A's pieces for output 2 tile its block (1 store of `S32x128`, checked by the kernel's evaluation: Lib/Ring.lean `Piece.tiledL`, linear in the pieces, through a loop's `@[irreducible]` trip theorem too), so they cover it. -/
theorem cover2_A_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) (y : S32x128.Idx) :
    ∃ pc ∈ (kernelRun2_A c i arg1 harg1 arg2 harg2 arg3 harg3 arg4 harg4 arg5 harg5 arg6 harg6 arg7 harg7 hc0 hc1 hc2 x0).2.1, y ∈ pc.1.set :=
  View.cover_of_tiledL (kernelRun2_A c i arg1 harg1 arg2 harg2 arg3 harg3 arg4 harg4 arg5 harg5 arg6 harg6 arg7 harg7 hc0 hc1 hc2 x0).2.1 S32x128.size (by sl_kernel_rfl) y

/-- What case A leaves in output 2's staging buffer: its pieces read back over junk. -/
def out2_A_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S32x128 .f32 :=
  VO2_2.read (Elt F) (VO2_2.writes (Elt F) VO2_2.junk (kernelRun2_A c i arg1 harg1 arg2 harg2 arg3 harg3 arg4 harg4 arg5 harg5 arg6 harg6 arg7 harg7 hc0 hc1 hc2 x0).2.1)

/-- Case A's pieces for output 3 tile its block (1 store of `S1x30522`, checked by the kernel's evaluation: Lib/Ring.lean `Piece.tiledL`, linear in the pieces, through a loop's `@[irreducible]` trip theorem too), so they cover it. -/
theorem cover2_A_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) (y : S1x30522.Idx) :
    ∃ pc ∈ (kernelRun2_A c i arg1 harg1 arg2 harg2 arg3 harg3 arg4 harg4 arg5 harg5 arg6 harg6 arg7 harg7 hc0 hc1 hc2 x0).2.2.1, y ∈ pc.1.set :=
  View.cover_of_tiledL (kernelRun2_A c i arg1 harg1 arg2 harg2 arg3 harg3 arg4 harg4 arg5 harg5 arg6 harg6 arg7 harg7 hc0 hc1 hc2 x0).2.2.1 S1x30522.size (by sl_kernel_rfl) y

/-- What case A leaves in output 3's staging buffer: its pieces read back over junk. -/
def out2_A_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S1x30522 .f32 :=
  VO2_3.read (Elt F) (VO2_3.writes (Elt F) VO2_3.junk (kernelRun2_A c i arg1 harg1 arg2 harg2 arg3 harg3 arg4 harg4 arg5 harg5 arg6 harg6 arg7 harg7 hc0 hc1 hc2 x0).2.2.1)

/-- Case A stores nothing into output 4 (the window is idle at its points and not written back there):
    no pieces — a placeholder (junk read back) that nothing consults, since at these points the window is neither
    written back nor read at the next point (Lib/Pipeline.lean "Idle points"). -/
def out2_A_4 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S1x128 .f32 :=
  VO2_4.read (Elt F) (VO2_4.writes (Elt F) VO2_4.junk (kernelRun2_A c i arg1 harg1 arg2 harg2 arg3 harg3 arg4 harg4 arg5 harg5 arg6 harg6 arg7 harg7 hc0 hc1 hc2 x0).2.2.2.1)

/-- Case A's pieces for output 5 tile its block (1 store of `S32x30522`, checked by the kernel's evaluation: Lib/Ring.lean `Piece.tiledL`, linear in the pieces, through a loop's `@[irreducible]` trip theorem too), so they cover it. -/
theorem cover2_A_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) (y : S32x30522.Idx) :
    ∃ pc ∈ (kernelRun2_A c i arg1 harg1 arg2 harg2 arg3 harg3 arg4 harg4 arg5 harg5 arg6 harg6 arg7 harg7 hc0 hc1 hc2 x0).2.2.2.2.1, y ∈ pc.1.set :=
  View.cover_of_tiledL (kernelRun2_A c i arg1 harg1 arg2 harg2 arg3 harg3 arg4 harg4 arg5 harg5 arg6 harg6 arg7 harg7 hc0 hc1 hc2 x0).2.2.2.2.1 S32x30522.size (by sl_kernel_rfl) y

/-- What case A leaves in output 5's staging buffer: its pieces read back over junk. -/
def out2_A_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S32x30522 .i8 :=
  VO2_5.read (Elt F) (VO2_5.writes (Elt F) VO2_5.junk (kernelRun2_A c i arg1 harg1 arg2 harg2 arg3 harg3 arg4 harg4 arg5 harg5 arg6 harg6 arg7 harg7 hc0 hc1 hc2 x0).2.2.2.2.1)

/-- Case A's pieces for output 6 tile its block (1 store of `S32x128`, checked by the kernel's evaluation: Lib/Ring.lean `Piece.tiledL`, linear in the pieces, through a loop's `@[irreducible]` trip theorem too), so they cover it. -/
theorem cover2_A_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) (y : S32x128.Idx) :
    ∃ pc ∈ (kernelRun2_A c i arg1 harg1 arg2 harg2 arg3 harg3 arg4 harg4 arg5 harg5 arg6 harg6 arg7 harg7 hc0 hc1 hc2 x0).2.2.2.2.2.1, y ∈ pc.1.set :=
  View.cover_of_tiledL (kernelRun2_A c i arg1 harg1 arg2 harg2 arg3 harg3 arg4 harg4 arg5 harg5 arg6 harg6 arg7 harg7 hc0 hc1 hc2 x0).2.2.2.2.2.1 S32x128.size (by sl_kernel_rfl) y

/-- What case A leaves in output 6's staging buffer: its pieces read back over junk. -/
def out2_A_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : cond2_0 i) (hc1 : ¬cond2_1 i) (hc2 : ¬cond2_2 i)
    (x0 : Vec F S32x30522 .f32) : Vec F S32x128 .f32 :=
  VO2_6.read (Elt F) (VO2_6.writes (Elt F) VO2_6.junk (kernelRun2_A c i arg1 harg1 arg2 harg2 arg3 harg3 arg4 harg4 arg5 harg5 arg6 harg6 arg7 harg7 hc0 hc1 hc2 x0).2.2.2.2.2.1)

/-- Case B's pieces for output 1 tile its block (1 store of `S32x30522`, checked by the kernel's evaluation: Lib/Ring.lean `Piece.tiledL`, linear in the pieces, through a loop's `@[irreducible]` trip theorem too), so they cover it. -/
theorem cover2_B_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) (y : S32x30522.Idx) :
    ∃ pc ∈ (kernelRun2_B c i arg1 harg1 arg2 harg2 arg3 harg3 arg4 harg4 arg5 harg5 arg6 harg6 arg7 harg7 hc0 hc1 hc2 x0 xo3).1, y ∈ pc.1.set :=
  View.cover_of_tiledL (kernelRun2_B c i arg1 harg1 arg2 harg2 arg3 harg3 arg4 harg4 arg5 harg5 arg6 harg6 arg7 harg7 hc0 hc1 hc2 x0 xo3).1 S32x30522.size (by sl_kernel_rfl) y

/-- What case B leaves in output 1's staging buffer: its pieces read back over junk. -/
def out2_B_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S32x30522 .f32 :=
  VO2_1.read (Elt F) (VO2_1.writes (Elt F) VO2_1.junk (kernelRun2_B c i arg1 harg1 arg2 harg2 arg3 harg3 arg4 harg4 arg5 harg5 arg6 harg6 arg7 harg7 hc0 hc1 hc2 x0 xo3).1)

/-- Case B's pieces for output 2 tile its block (1 store of `S32x128`, checked by the kernel's evaluation: Lib/Ring.lean `Piece.tiledL`, linear in the pieces, through a loop's `@[irreducible]` trip theorem too), so they cover it. -/
theorem cover2_B_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) (y : S32x128.Idx) :
    ∃ pc ∈ (kernelRun2_B c i arg1 harg1 arg2 harg2 arg3 harg3 arg4 harg4 arg5 harg5 arg6 harg6 arg7 harg7 hc0 hc1 hc2 x0 xo3).2.1, y ∈ pc.1.set :=
  View.cover_of_tiledL (kernelRun2_B c i arg1 harg1 arg2 harg2 arg3 harg3 arg4 harg4 arg5 harg5 arg6 harg6 arg7 harg7 hc0 hc1 hc2 x0 xo3).2.1 S32x128.size (by sl_kernel_rfl) y

/-- What case B leaves in output 2's staging buffer: its pieces read back over junk. -/
def out2_B_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S32x128 .f32 :=
  VO2_2.read (Elt F) (VO2_2.writes (Elt F) VO2_2.junk (kernelRun2_B c i arg1 harg1 arg2 harg2 arg3 harg3 arg4 harg4 arg5 harg5 arg6 harg6 arg7 harg7 hc0 hc1 hc2 x0 xo3).2.1)

/-- Case B's pieces for output 3 tile its block (1 store of `S1x30522`, checked by the kernel's evaluation: Lib/Ring.lean `Piece.tiledL`, linear in the pieces, through a loop's `@[irreducible]` trip theorem too), so they cover it. -/
theorem cover2_B_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) (y : S1x30522.Idx) :
    ∃ pc ∈ (kernelRun2_B c i arg1 harg1 arg2 harg2 arg3 harg3 arg4 harg4 arg5 harg5 arg6 harg6 arg7 harg7 hc0 hc1 hc2 x0 xo3).2.2.1, y ∈ pc.1.set :=
  View.cover_of_tiledL (kernelRun2_B c i arg1 harg1 arg2 harg2 arg3 harg3 arg4 harg4 arg5 harg5 arg6 harg6 arg7 harg7 hc0 hc1 hc2 x0 xo3).2.2.1 S1x30522.size (by sl_kernel_rfl) y

/-- What case B leaves in output 3's staging buffer: its pieces read back over junk. -/
def out2_B_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S1x30522 .f32 :=
  VO2_3.read (Elt F) (VO2_3.writes (Elt F) VO2_3.junk (kernelRun2_B c i arg1 harg1 arg2 harg2 arg3 harg3 arg4 harg4 arg5 harg5 arg6 harg6 arg7 harg7 hc0 hc1 hc2 x0 xo3).2.2.1)

/-- Case B stores nothing into output 4 (the window is idle at its points and not written back there):
    no pieces — a placeholder (junk read back) that nothing consults, since at these points the window is neither
    written back nor read at the next point (Lib/Pipeline.lean "Idle points"). -/
def out2_B_4 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S1x128 .f32 :=
  VO2_4.read (Elt F) (VO2_4.writes (Elt F) VO2_4.junk (kernelRun2_B c i arg1 harg1 arg2 harg2 arg3 harg3 arg4 harg4 arg5 harg5 arg6 harg6 arg7 harg7 hc0 hc1 hc2 x0 xo3).2.2.2.1)

/-- Case B's pieces for output 5 tile its block (1 store of `S32x30522`, checked by the kernel's evaluation: Lib/Ring.lean `Piece.tiledL`, linear in the pieces, through a loop's `@[irreducible]` trip theorem too), so they cover it. -/
theorem cover2_B_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) (y : S32x30522.Idx) :
    ∃ pc ∈ (kernelRun2_B c i arg1 harg1 arg2 harg2 arg3 harg3 arg4 harg4 arg5 harg5 arg6 harg6 arg7 harg7 hc0 hc1 hc2 x0 xo3).2.2.2.2.1, y ∈ pc.1.set :=
  View.cover_of_tiledL (kernelRun2_B c i arg1 harg1 arg2 harg2 arg3 harg3 arg4 harg4 arg5 harg5 arg6 harg6 arg7 harg7 hc0 hc1 hc2 x0 xo3).2.2.2.2.1 S32x30522.size (by sl_kernel_rfl) y

/-- What case B leaves in output 5's staging buffer: its pieces read back over junk. -/
def out2_B_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S32x30522 .i8 :=
  VO2_5.read (Elt F) (VO2_5.writes (Elt F) VO2_5.junk (kernelRun2_B c i arg1 harg1 arg2 harg2 arg3 harg3 arg4 harg4 arg5 harg5 arg6 harg6 arg7 harg7 hc0 hc1 hc2 x0 xo3).2.2.2.2.1)

/-- Case B's pieces for output 6 tile its block (1 store of `S32x128`, checked by the kernel's evaluation: Lib/Ring.lean `Piece.tiledL`, linear in the pieces, through a loop's `@[irreducible]` trip theorem too), so they cover it. -/
theorem cover2_B_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) (y : S32x128.Idx) :
    ∃ pc ∈ (kernelRun2_B c i arg1 harg1 arg2 harg2 arg3 harg3 arg4 harg4 arg5 harg5 arg6 harg6 arg7 harg7 hc0 hc1 hc2 x0 xo3).2.2.2.2.2.1, y ∈ pc.1.set :=
  View.cover_of_tiledL (kernelRun2_B c i arg1 harg1 arg2 harg2 arg3 harg3 arg4 harg4 arg5 harg5 arg6 harg6 arg7 harg7 hc0 hc1 hc2 x0 xo3).2.2.2.2.2.1 S32x128.size (by sl_kernel_rfl) y

/-- What case B leaves in output 6's staging buffer: its pieces read back over junk. -/
def out2_B_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : ¬cond2_2 i)
    (x0 : Vec F S32x30522 .f32) (xo3 : Vec F S1x30522 .f32) : Vec F S32x128 .f32 :=
  VO2_6.read (Elt F) (VO2_6.writes (Elt F) VO2_6.junk (kernelRun2_B c i arg1 harg1 arg2 harg2 arg3 harg3 arg4 harg4 arg5 harg5 arg6 harg6 arg7 harg7 hc0 hc1 hc2 x0 xo3).2.2.2.2.2.1)

/-- Case C's pieces for output 1 tile its block (1 store of `S32x30522`, checked by the kernel's evaluation: Lib/Ring.lean `Piece.tiledL`, linear in the pieces, through a loop's `@[irreducible]` trip theorem too), so they cover it. -/
theorem cover2_C_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S32x30522.Idx) :
    ∃ pc ∈ (kernelRun2_C c i arg1 harg1 arg2 harg2 arg3 harg3 arg4 harg4 arg5 harg5 arg6 harg6 arg7 harg7 hc0 hc1 hc2 x0 xo3).1, y ∈ pc.1.set :=
  View.cover_of_tiledL (kernelRun2_C c i arg1 harg1 arg2 harg2 arg3 harg3 arg4 harg4 arg5 harg5 arg6 harg6 arg7 harg7 hc0 hc1 hc2 x0 xo3).1 S32x30522.size (by sl_kernel_rfl) y

/-- What case C leaves in output 1's staging buffer: its pieces read back over junk. -/
def out2_C_1 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S32x30522 .f32 :=
  VO2_1.read (Elt F) (VO2_1.writes (Elt F) VO2_1.junk (kernelRun2_C c i arg1 harg1 arg2 harg2 arg3 harg3 arg4 harg4 arg5 harg5 arg6 harg6 arg7 harg7 hc0 hc1 hc2 x0 xo3).1)

/-- Case C's pieces for output 2 tile its block (1 store of `S32x128`, checked by the kernel's evaluation: Lib/Ring.lean `Piece.tiledL`, linear in the pieces, through a loop's `@[irreducible]` trip theorem too), so they cover it. -/
theorem cover2_C_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S32x128.Idx) :
    ∃ pc ∈ (kernelRun2_C c i arg1 harg1 arg2 harg2 arg3 harg3 arg4 harg4 arg5 harg5 arg6 harg6 arg7 harg7 hc0 hc1 hc2 x0 xo3).2.1, y ∈ pc.1.set :=
  View.cover_of_tiledL (kernelRun2_C c i arg1 harg1 arg2 harg2 arg3 harg3 arg4 harg4 arg5 harg5 arg6 harg6 arg7 harg7 hc0 hc1 hc2 x0 xo3).2.1 S32x128.size (by sl_kernel_rfl) y

/-- What case C leaves in output 2's staging buffer: its pieces read back over junk. -/
def out2_C_2 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S32x128 .f32 :=
  VO2_2.read (Elt F) (VO2_2.writes (Elt F) VO2_2.junk (kernelRun2_C c i arg1 harg1 arg2 harg2 arg3 harg3 arg4 harg4 arg5 harg5 arg6 harg6 arg7 harg7 hc0 hc1 hc2 x0 xo3).2.1)

/-- Case C's pieces for output 3 tile its block (2 stores of `S1x30522`, checked by the kernel's evaluation: Lib/Ring.lean `Piece.tiledL`, linear in the pieces, through a loop's `@[irreducible]` trip theorem too), so they cover it. -/
theorem cover2_C_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S1x30522.Idx) :
    ∃ pc ∈ (kernelRun2_C c i arg1 harg1 arg2 harg2 arg3 harg3 arg4 harg4 arg5 harg5 arg6 harg6 arg7 harg7 hc0 hc1 hc2 x0 xo3).2.2.1, y ∈ pc.1.set :=
  View.cover_of_tiledL (kernelRun2_C c i arg1 harg1 arg2 harg2 arg3 harg3 arg4 harg4 arg5 harg5 arg6 harg6 arg7 harg7 hc0 hc1 hc2 x0 xo3).2.2.1 S1x30522.size (by sl_kernel_rfl) y

/-- What case C leaves in output 3's staging buffer: its pieces read back over junk. -/
def out2_C_3 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S1x30522 .f32 :=
  VO2_3.read (Elt F) (VO2_3.writes (Elt F) VO2_3.junk (kernelRun2_C c i arg1 harg1 arg2 harg2 arg3 harg3 arg4 harg4 arg5 harg5 arg6 harg6 arg7 harg7 hc0 hc1 hc2 x0 xo3).2.2.1)

/-- Case C's pieces for output 4 tile its block (1 store of `S1x128`, checked by the kernel's evaluation: Lib/Ring.lean `Piece.tiledL`, linear in the pieces, through a loop's `@[irreducible]` trip theorem too), so they cover it. -/
theorem cover2_C_4 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S1x128.Idx) :
    ∃ pc ∈ (kernelRun2_C c i arg1 harg1 arg2 harg2 arg3 harg3 arg4 harg4 arg5 harg5 arg6 harg6 arg7 harg7 hc0 hc1 hc2 x0 xo3).2.2.2.1, y ∈ pc.1.set :=
  View.cover_of_tiledL (kernelRun2_C c i arg1 harg1 arg2 harg2 arg3 harg3 arg4 harg4 arg5 harg5 arg6 harg6 arg7 harg7 hc0 hc1 hc2 x0 xo3).2.2.2.1 S1x128.size (by sl_kernel_rfl) y

/-- What case C leaves in output 4's staging buffer: its pieces read back over junk. -/
def out2_C_4 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S1x128 .f32 :=
  VO2_4.read (Elt F) (VO2_4.writes (Elt F) VO2_4.junk (kernelRun2_C c i arg1 harg1 arg2 harg2 arg3 harg3 arg4 harg4 arg5 harg5 arg6 harg6 arg7 harg7 hc0 hc1 hc2 x0 xo3).2.2.2.1)

/-- Case C's pieces for output 5 tile its block (1 store of `S32x30522`, checked by the kernel's evaluation: Lib/Ring.lean `Piece.tiledL`, linear in the pieces, through a loop's `@[irreducible]` trip theorem too), so they cover it. -/
theorem cover2_C_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S32x30522.Idx) :
    ∃ pc ∈ (kernelRun2_C c i arg1 harg1 arg2 harg2 arg3 harg3 arg4 harg4 arg5 harg5 arg6 harg6 arg7 harg7 hc0 hc1 hc2 x0 xo3).2.2.2.2.1, y ∈ pc.1.set :=
  View.cover_of_tiledL (kernelRun2_C c i arg1 harg1 arg2 harg2 arg3 harg3 arg4 harg4 arg5 harg5 arg6 harg6 arg7 harg7 hc0 hc1 hc2 x0 xo3).2.2.2.2.1 S32x30522.size (by sl_kernel_rfl) y

/-- What case C leaves in output 5's staging buffer: its pieces read back over junk. -/
def out2_C_5 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S32x30522 .i8 :=
  VO2_5.read (Elt F) (VO2_5.writes (Elt F) VO2_5.junk (kernelRun2_C c i arg1 harg1 arg2 harg2 arg3 harg3 arg4 harg4 arg5 harg5 arg6 harg6 arg7 harg7 hc0 hc1 hc2 x0 xo3).2.2.2.2.1)

/-- Case C's pieces for output 6 tile its block (1 store of `S32x128`, checked by the kernel's evaluation: Lib/Ring.lean `Piece.tiledL`, linear in the pieces, through a loop's `@[irreducible]` trip theorem too), so they cover it. -/
theorem cover2_C_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) (y : S32x128.Idx) :
    ∃ pc ∈ (kernelRun2_C c i arg1 harg1 arg2 harg2 arg3 harg3 arg4 harg4 arg5 harg5 arg6 harg6 arg7 harg7 hc0 hc1 hc2 x0 xo3).2.2.2.2.2.1, y ∈ pc.1.set :=
  View.cover_of_tiledL (kernelRun2_C c i arg1 harg1 arg2 harg2 arg3 harg3 arg4 harg4 arg5 harg5 arg6 harg6 arg7 harg7 hc0 hc1 hc2 x0 xo3).2.2.2.2.2.1 S32x128.size (by sl_kernel_rfl) y

/-- What case C leaves in output 6's staging buffer: its pieces read back over junk. -/
def out2_C_6 (c : Dev nD) (i : grid2.Coords) (arg1 : Memref sig .tc .vmem S32x30522 .f32) (harg1 : arg1.IsWhole) (arg2 : Memref sig .tc .vmem S32x30522 .f32) (harg2 : arg2.IsWhole) (arg3 : Memref sig .tc .vmem S32x128 .f32) (harg3 : arg3.IsWhole) (arg4 : Memref sig .tc .vmem S1x30522 .f32) (harg4 : arg4.IsWhole) (arg5 : Memref sig .tc .vmem S1x128 .f32) (harg5 : arg5.IsWhole) (arg6 : Memref sig .tc .vmem S32x30522 .i8) (harg6 : arg6.IsWhole) (arg7 : Memref sig .tc .vmem S32x128 .f32) (harg7 : arg7.IsWhole) (hc0 : ¬cond2_0 i) (hc1 : cond2_1 i) (hc2 : cond2_2 i)
    (x0 : Vec F S32x30522 .f32) (xo3 : Vec F S1x30522 .f32) : Vec F S32x128 .f32 :=
  VO2_6.read (Elt F) (VO2_6.writes (Elt F) VO2_6.junk (kernelRun2_C c i arg1 harg1 arg2 harg2 arg3 harg3 arg4 harg4 arg5 harg5 arg6 harg6 arg7 harg7 hc0 hc1 hc2 x0 xo3).2.2.2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`); an output it leaves idle whose contents another case keeps stays
    what this leaves at `n - 1`, carried. An assignment of the conditions no point meets is no case (`False.elim`). -/
def outsAt2 (c : Dev nD) : (n : ℕ) → n < cfg2.N → Vec F S32x30522 .f32 × Vec F S32x128 .f32 × Vec F S1x30522 .f32 × Vec F S1x128 .f32 × Vec F S32x30522 .i8 × Vec F S32x128 .f32
  | 0, hn => (out2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩))
  | n + 1, hn =>
    if h0 : (n + 1) % 4 = 0 then
      if h1 : 1 ≤ (n + 1) then
        False.elim (by have hN : n + 1 < 4 := lt_of_lt_of_eq hn (show cfg2.N = 4 from N_2); omega)
      else
        if h2 : (n + 1) % 4 = 3 then
          False.elim (by have hN : n + 1 < 4 := lt_of_lt_of_eq hn (show cfg2.N = 4 from N_2); omega)
        else
          (out2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩))
    else
      if h1 : 1 ≤ (n + 1) then
        if h2 : (n + 1) % 4 = 3 then
          (out2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1, out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1, out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1, out2_C_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1, out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1, out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (outsAt2 c n (Nat.lt_of_succ_lt hn)).2.2.1)
        else
          (out2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1, out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1, out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1, out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (outsAt2 c n (Nat.lt_of_succ_lt hn)).2.2.1)
      else
        False.elim (by have hN : n + 1 < 4 := lt_of_lt_of_eq hn (show cfg2.N = 4 from N_2); omega)

/-- `outsAt2` at a point of case A: that case's contents. -/
theorem outsAt2_A (c : Dev nD) (t : Fin cfg2.N) (h0 : t.val % 4 = 0) (h1 : ¬1 ≤ t.val) (h2 : ¬t.val % 4 = 3) :
    outsAt2 V c t.val t.isLt = (out2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t), out2_A_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t), out2_A_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t), out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (fun h => h1 ((hcond2_1 t).mp h)) (fun h => h2 ((hcond2_2 t).mp h)) (iblk2 V c 0 t)) := by
  obtain ⟨n, hn⟩ := t
  cases n with
  | zero => exact rfl
  | succ n => exact (dif_pos h0).trans ((dif_neg h1).trans ((dif_neg h2).trans rfl))

/-- `outsAt2` at a point of case B: that case's contents, over what the point before left. -/
theorem outsAt2_B (c : Dev nD) (t : Fin cfg2.N) (h0 : ¬t.val % 4 = 0) (h1 : 1 ≤ t.val) (h2 : ¬t.val % 4 = 3) :
    outsAt2 V c t.val t.isLt = (out2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1, out2_B_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1, out2_B_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1, out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) (fun h => h2 ((hcond2_2 t).mp h)) (iblk2 V c 0 t) (outsAt2 V c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt2` at a point of case C: that case's contents, over what the point before left. -/
theorem outsAt2_C (c : Dev nD) (t : Fin cfg2.N) (h0 : ¬t.val % 4 = 0) (h1 : 1 ≤ t.val) (h2 : t.val % 4 = 3) :
    outsAt2 V c t.val t.isLt = (out2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1, out2_C_2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1, out2_C_3 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1, out2_C_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1, out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1, out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) ((hcond2_1 t).mpr h1) ((hcond2_2 t).mpr h2) (iblk2 V c 0 t) (outsAt2 V c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-! ## The pipeline's proof data -/

/-- The proof data of the one pipeline on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
    | ⟨2, _⟩ => (outsAt2 V c t.val t.isLt).2.1
    | ⟨3, _⟩ => (outsAt2 V c t.val t.isLt).2.2.1
    | ⟨4, _⟩ => (outsAt2 V c t.val t.isLt).2.2.2.1
    | ⟨5, _⟩ => (outsAt2 V c t.val t.isLt).2.2.2.2.1
    | ⟨6, _⟩ => (outsAt2 V c t.val t.isLt).2.2.2.2.2
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]
theorem after2_2 (c : Dev nD) (t : Fin cfg2.N) : (dat2 V c).after 2 t = (outsAt2 V c t.val t.isLt).2.1 := by dsimp only [dat2]
theorem after2_3 (c : Dev nD) (t : Fin cfg2.N) : (dat2 V c).after 3 t = (outsAt2 V c t.val t.isLt).2.2.1 := by dsimp only [dat2]
theorem after2_4 (c : Dev nD) (t : Fin cfg2.N) : (dat2 V c).after 4 t = (outsAt2 V c t.val t.isLt).2.2.2.1 := by dsimp only [dat2]
theorem after2_5 (c : Dev nD) (t : Fin cfg2.N) : (dat2 V c).after 5 t = (outsAt2 V c t.val t.isLt).2.2.2.2.1 := by dsimp only [dat2]
theorem after2_6 (c : Dev nD) (t : Fin cfg2.N) : (dat2 V c).after 6 t = (outsAt2 V c t.val t.isLt).2.2.2.2.2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d

/-- Output 3's contents CARRY through the points that leave it idle: at such a point, its buffer not fresh, the proof data's
    `after` is the point before's (the case there stores nothing into the window and its term says so; a case that stores
    into it is not idle there by `liveAt2_3_κ`) — the hypothesis of Lib/Pipeline/TableIdle.lean `Dat.before_out_traj`. -/
theorem hcarry2_3 (c : Dev nD) : ∀ (t : Fin cfg2.N) (_ : t.val ≠ 0), cfg2.idle 3 (grid2.coords t) = true → cfg2.fresh 3 t.val = false →
    (dat2 V c).after 3 t = (dat2 V c).after 3 ⟨t.val - 1, by omega⟩ := by
  intro t _ hi _
  have hN : t.val < 4 := lt_of_lt_of_eq t.isLt (show cfg2.N = 4 from N_2)
  rw [after2_3, after2_3]
  by_cases h0 : t.val % 4 = 0
  · by_cases h1 : 1 ≤ t.val
    · exfalso; omega
    · by_cases h2 : t.val % 4 = 3
      · exfalso; omega
      · rw [liveAt2_3_A t ((hcond2_0 t).mpr h0) (fun h => h1 ((hcond2_1 t).mp h)) (fun h => h2 ((hcond2_2 t).mp h))] at hi
        exact absurd hi Bool.false_ne_true
  · by_cases h1 : 1 ≤ t.val
    · by_cases h2 : t.val % 4 = 3
      · rw [liveAt2_3_C t (fun h => h0 ((hcond2_0 t).mp h)) ((hcond2_1 t).mpr h1) ((hcond2_2 t).mpr h2)] at hi
        exact absurd hi Bool.false_ne_true
      · rw [liveAt2_3_B t (fun h => h0 ((hcond2_0 t).mp h)) ((hcond2_1 t).mpr h1) (fun h => h2 ((hcond2_2 t).mp h))] at hi
        exact absurd hi Bool.false_ne_true
    · exfalso; omega
/-- At a point of case B output 3's current staging buffer holds what the point before left: the buffer is not fresh
    there (`notFresh2_3_B`: stored into since the region's entry or the last write-back, carried through the points that
    leave it idle by `hcarry2_3`; Lib/Pipeline/TableIdle.lean `Dat.before_out_traj`). -/
theorem before2_3_B (c : Dev nD) (t : Fin cfg2.N) (h0 : ¬t.val % 4 = 0) (h1 : 1 ≤ t.val) (h2 : ¬t.val % 4 = 3) (d) :
    (dat2 V c).before 3 t d = (outsAt2 V c (t.val - 1) (Nat.lt_of_le_of_lt (Nat.sub_le _ _) t.isLt)).2.2.1 := by
  rw [Dat.before_out_traj _ 3 rfl (fun _ _ => rfl) (hcarry2_3 V c) t.val t rfl d,
    if_neg (by rw [notFresh2_3_B t (fun h => h0 ((hcond2_0 t).mp h)) ((hcond2_1 t).mpr h1) (fun h => h2 ((hcond2_2 t).mp h))]; exact Bool.false_ne_true)]
  dsimp only [dat2]
/-- At a point of case C output 3's current staging buffer holds what the point before left: the buffer is not fresh
    there (`notFresh2_3_C`: stored into since the region's entry or the last write-back, carried through the points that
    leave it idle by `hcarry2_3`; Lib/Pipeline/TableIdle.lean `Dat.before_out_traj`). -/
theorem before2_3_C (c : Dev nD) (t : Fin cfg2.N) (h0 : ¬t.val % 4 = 0) (h1 : 1 ≤ t.val) (h2 : t.val % 4 = 3) (d) :
    (dat2 V c).before 3 t d = (outsAt2 V c (t.val - 1) (Nat.lt_of_le_of_lt (Nat.sub_le _ _) t.isLt)).2.2.1 := by
  rw [Dat.before_out_traj _ 3 rfl (fun _ _ => rfl) (hcarry2_3 V c) t.val t rfl d,
    if_neg (by rw [notFresh2_3_C t (fun h => h0 ((hcond2_0 t).mp h)) ((hcond2_1 t).mpr h1) ((hcond2_2 t).mpr h2)]; exact Bool.false_ne_true)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 1200000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl]
  have hN : t.val < 4 := lt_of_lt_of_eq t.isLt (show cfg2.N = 4 from N_2)
  by_cases h0 : t.val % 4 = 0
  · by_cases h1 : 1 ≤ t.val
    · exfalso; omega
    · by_cases h2 : t.val % 4 = 3
      · exfalso; omega
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3_A t ((hcond2_0 t).mpr h0) (fun h => h1 ((hcond2_1 t).mp h)) (fun h => h2 ((hcond2_2 t).mp h))], after2_3]
        rw [Dat.leavesExact_idle (dat2 V c) 4 t (idleAt2_4_A t ((hcond2_0 t).mpr h0) (fun h => h1 ((hcond2_1 t).mp h)) (fun h => h2 ((hcond2_2 t).mp h))) (noFlush2_4_A t ((hcond2_0 t).mpr h0) (fun h => h1 ((hcond2_1 t).mp h)) (fun h => h2 ((hcond2_2 t).mp h)))]
        rw [show (dat2 V c).leavesExact 5 t = owns (c : Thread nD τ) (ms2_5 t) fullShare ((dat2 V c).after 5 t) from by
      unfold Dat.leavesExact; rw [liveAt2_5 t], after2_5]
        rw [show (dat2 V c).leavesExact 6 t = owns (c : Thread nD τ) (ms2_6 t) fullShare ((dat2 V c).after 6 t) from by
      unfold Dat.leavesExact; rw [liveAt2_6 t], after2_6]
        rw [outsAt2_A V c t h0 h1 h2]
        unfold out2_A_1 out2_A_2 out2_A_3 out2_A_5 out2_A_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) _ _ _ _ _ _ _ _ _ _ _ _ _ _ ((hcond2_0 t).mpr h0) (fun h => h1 ((hcond2_1 t).mp h)) (fun h => h2 ((hcond2_2 t).mp h)) (iblk2 V c 0 t)).2.2.2.2.2.2 _ Set.univ _)
        isplitl [H0]; · iexact H0
        isplitl [H1]; · iexists _; iexact H1
        isplitl [H2]; · iexists _; iexact H2
        isplitl [H3]; · iexists _; iexact H3
        isplitl [H4]; · iexact H4
        isplitl [H5]; · iexists _; iexact H5
        isplitl [H6]; · iexists _; iexact H6
        iintro ⟨H0, ⟨%e1, H1⟩, ⟨%e2, H2⟩, ⟨%e3, H3⟩, H4, ⟨%e5, H5⟩, ⟨%e6, H6⟩⟩
        isplitl [HΦ]; · iexact HΦ
        isplitl [Ho]; · iexact Ho
        isplitl [H0]; · iexact H0
        isplitl [H1]
        · unfold owns; iexists _; isplitr
          swap; · iexact H1
          ipureintro; exact View.read_writes_of_cover _ _ _ _ _ (cover2_A_1 c _ _ _ _ _ _ _ _ _ _ _ _ _ _ _ _ _ _ _)
        isplitl [H2]
        · unfold owns; iexists _; isplitr
          swap; · iexact H2
          ipureintro; exact View.read_writes_of_cover _ _ _ _ _ (cover2_A_2 c _ _ _ _ _ _ _ _ _ _ _ _ _ _ _ _ _ _ _)
        isplitl [H3]
        · unfold owns; iexists _; isplitr
          swap; · iexact H3
          ipureintro; exact View.read_writes_of_cover _ _ _ _ _ (cover2_A_3 c _ _ _ _ _ _ _ _ _ _ _ _ _ _ _ _ _ _ _)
        isplitl [H4]; · iexists _; iexact H4
        isplitl [H5]
        · unfold owns; iexists _; isplitr
          swap; · iexact H5
          ipureintro; exact View.read_writes_of_cover _ _ _ _ _ (cover2_A_5 c _ _ _ _ _ _ _ _ _ _ _ _ _ _ _ _ _ _ _)
        unfold owns; iexists _; isplitr
        swap; · iexact H6
        ipureintro; exact View.read_writes_of_cover _ _ _ _ _ (cover2_A_6 c _ _ _ _ _ _ _ _ _ _ _ _ _ _ _ _ _ _ _)
  · by_cases h1 : 1 ≤ t.val
    · by_cases h2 : t.val % 4 = 3
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3_C t (fun h => h0 ((hcond2_0 t).mp h)) ((hcond2_1 t).mpr h1) ((hcond2_2 t).mpr h2)], after2_3]
        rw [show (dat2 V c).leavesExact 4 t = owns (c : Thread nD τ) (ms2_4 t) fullShare ((dat2 V c).after 4 t) from by
      unfold Dat.leavesExact; rw [liveAt2_4_C t (fun h => h0 ((hcond2_0 t).mp h)) ((hcond2_1 t).mpr h1) ((hcond2_2 t).mpr h2)], after2_4]
        rw [show (dat2 V c).leavesExact 5 t = owns (c : Thread nD τ) (ms2_5 t) fullShare ((dat2 V c).after 5 t) from by
      unfold Dat.leavesExact; rw [liveAt2_5 t], after2_5]
        rw [show (dat2 V c).leavesExact 6 t = owns (c : Thread nD τ) (ms2_6 t) fullShare ((dat2 V c).after 6 t) from by
      unfold Dat.leavesExact; rw [liveAt2_6 t], after2_6]
        rw [outsAt2_C V c t h0 h1 h2]
        simp only [before2_3_C V c t h0 h1 h2]
        unfold out2_C_1 out2_C_2 out2_C_3 out2_C_4 out2_C_5 out2_C_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun2_C c (grid2.coords t) _ _ _ _ _ _ _ _ _ _ _ _ _ _ (fun h => h0 ((hcond2_0 t).mp h)) ((hcond2_1 t).mpr h1) ((hcond2_2 t).mpr h2) (iblk2 V c 0 t) _).2.2.2.2.2.2 Set.univ _)
        isplitl [H0]; · iexact H0
        isplitl [H1]; · iexists _; iexact H1
        isplitl [H2]; · iexists _; iexact H2
        isplitl [H3]; · iexact H3
        isplitl [H4]; · iexists _; iexact H4
        isplitl [H5]; · iexists _; iexact H5
        isplitl [H6]; · iexists _; iexact H6
        iintro ⟨H0, ⟨%e1, H1⟩, ⟨%e2, H2⟩, ⟨%e3, H3⟩, ⟨%e4, H4⟩, ⟨%e5, H5⟩, ⟨%e6, H6⟩⟩
        isplitl [HΦ]; · iexact HΦ
        isplitl [Ho]; · iexact Ho
        isplitl [H0]; · iexact H0
        isplitl [H1]
        · unfold owns; iexists _; isplitr
          swap; · iexact H1
          ipureintro; exact View.read_writes_of_cover _ _ _ _ _ (cover2_C_1 c _ _ _ _ _ _ _ _ _ _ _ _ _ _ _ _ _ _ _ _)
        isplitl [H2]
        · unfold owns; iexists _; isplitr
          swap; · iexact H2
          ipureintro; exact View.read_writes_of_cover _ _ _ _ _ (cover2_C_2 c _ _ _ _ _ _ _ _ _ _ _ _ _ _ _ _ _ _ _ _)
        isplitl [H3]
        · unfold owns; iexists _; isplitr
          swap; · iexact H3
          ipureintro; exact View.read_writes_of_cover _ _ _ _ _ (cover2_C_3 c _ _ _ _ _ _ _ _ _ _ _ _ _ _ _ _ _ _ _ _)
        isplitl [H4]
        · unfold owns; iexists _; isplitr
          swap; · iexact H4
          ipureintro; exact View.read_writes_of_cover _ _ _ _ _ (cover2_C_4 c _ _ _ _ _ _ _ _ _ _ _ _ _ _ _ _ _ _ _ _)
        isplitl [H5]
        · unfold owns; iexists _; isplitr
          swap; · iexact H5
          ipureintro; exact View.read_writes_of_cover _ _ _ _ _ (cover2_C_5 c _ _ _ _ _ _ _ _ _ _ _ _ _ _ _ _ _ _ _ _)
        unfold owns; iexists _; isplitr
        swap; · iexact H6
        ipureintro; exact View.read_writes_of_cover _ _ _ _ _ (cover2_C_6 c _ _ _ _ _ _ _ _ _ _ _ _ _ _ _ _ _ _ _ _)
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2 t], after2_2]
        rw [show (dat2 V c).leavesExact 3 t = owns (c : Thread nD τ) (ms2_3 t) fullShare ((dat2 V c).after 3 t) from by
      unfold Dat.leavesExact; rw [liveAt2_3_B t (fun h => h0 ((hcond2_0 t).mp h)) ((hcond2_1 t).mpr h1) (fun h => h2 ((hcond2_2 t).mp h))], after2_3]
        rw [Dat.leavesExact_idle (dat2 V c) 4 t (idleAt2_4_B t (fun h => h0 ((hcond2_0 t).mp h)) ((hcond2_1 t).mpr h1) (fun h => h2 ((hcond2_2 t).mp h))) (noFlush2_4_B t (fun h => h0 ((hcond2_0 t).mp h)) ((hcond2_1 t).mpr h1) (fun h => h2 ((hcond2_2 t).mp h)))]
        rw [show (dat2 V c).leavesExact 5 t = owns (c : Thread nD τ) (ms2_5 t) fullShare ((dat2 V c).after 5 t) from by
      unfold Dat.leavesExact; rw [liveAt2_5 t], after2_5]
        rw [show (dat2 V c).leavesExact 6 t = owns (c : Thread nD τ) (ms2_6 t) fullShare ((dat2 V c).after 6 t) from by
      unfold Dat.leavesExact; rw [liveAt2_6 t], after2_6]
        rw [outsAt2_B V c t h0 h1 h2]
        simp only [before2_3_B V c t h0 h1 h2]
        unfold out2_B_1 out2_B_2 out2_B_3 out2_B_5 out2_B_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun2_B c (grid2.coords t) _ _ _ _ _ _ _ _ _ _ _ _ _ _ (fun h => h0 ((hcond2_0 t).mp h)) ((hcond2_1 t).mpr h1) (fun h => h2 ((hcond2_2 t).mp h)) (iblk2 V c 0 t) _).2.2.2.2.2.2 _ Set.univ _)
        isplitl [H0]; · iexact H0
        isplitl [H1]; · iexists _; iexact H1
        isplitl [H2]; · iexists _; iexact H2
        isplitl [H3]; · iexact H3
        isplitl [H4]; · iexact H4
        isplitl [H5]; · iexists _; iexact H5
        isplitl [H6]; · iexists _; iexact H6
        iintro ⟨H0, ⟨%e1, H1⟩, ⟨%e2, H2⟩, ⟨%e3, H3⟩, H4, ⟨%e5, H5⟩, ⟨%e6, H6⟩⟩
        isplitl [HΦ]; · iexact HΦ
        isplitl [Ho]; · iexact Ho
        isplitl [H0]; · iexact H0
        isplitl [H1]
        · unfold owns; iexists _; isplitr
          swap; · iexact H1
          ipureintro; exact View.read_writes_of_cover _ _ _ _ _ (cover2_B_1 c _ _ _ _ _ _ _ _ _ _ _ _ _ _ _ _ _ _ _ _)
        isplitl [H2]
        · unfold owns; iexists _; isplitr
          swap; · iexact H2
          ipureintro; exact View.read_writes_of_cover _ _ _ _ _ (cover2_B_2 c _ _ _ _ _ _ _ _ _ _ _ _ _ _ _ _ _ _ _ _)
        isplitl [H3]
        · unfold owns; iexists _; isplitr
          swap; · iexact H3
          ipureintro; exact View.read_writes_of_cover _ _ _ _ _ (cover2_B_3 c _ _ _ _ _ _ _ _ _ _ _ _ _ _ _ _ _ _ _ _)
        isplitl [H4]; · iexists _; iexact H4
        isplitl [H5]
        · unfold owns; iexists _; isplitr
          swap; · iexact H5
          ipureintro; exact View.read_writes_of_cover _ _ _ _ _ (cover2_B_5 c _ _ _ _ _ _ _ _ _ _ _ _ _ _ _ _ _ _ _ _)
        unfold owns; iexists _; isplitr
        swap; · iexact H6
        ipureintro; exact View.read_writes_of_cover _ _ _ _ _ (cover2_B_6 c _ _ _ _ _ _ _ _ _ _ _ _ _ _ _ _ _ _ _ _)
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.KI.Run.lean ====
/- The run of the whole program: the host stretches and the three calls in order, what every buffer holds at each boundary
   between them, and that the run terminates with the arguments as launched. -/
module

public import proofs.«01_k».proof.Proof.KI.Transform
public import proofs.«01_k».proof.Proof.KI.Decode
public import proofs.«01_k».proof.Proof.KI.Finalize
@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references. -/
abbrev argRefs : List (Ref sig .tc) := [main_arg0, main_arg1, main_arg2, main_arg3, main_arg4, main_arg5, main_arg6, main_arg7, main_arg8, main_arg9, main_arg10]

/-! ## The host stretches -/

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9, main_v10]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v13, main_v14, main_v15, main_v16, main_v17, main_v18, main_v19, main_v20, main_v21]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)
/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ## The proof data and the thread state -/
/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
/-- The same as relational data: the decode region's holds its output window to what `rdat1` says. -/
def rpdats : (p : Fin 3) → (c : Dev nD) → Pipeline.RDat τ (Elt F) Unit ℕ (UR sig nD τ) ℕ (Pipeline.pin (pcfgs (F := F)) adm p) c
  | ⟨0, _⟩ => fun c => (dat0 (V1 m ρ) c).toR
  | ⟨1, _⟩ => fun c => rdat1 (V3 m ρ) c
  | ⟨2, _⟩ => fun c => (dat2 (V4 m ρ) c).toR
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rpdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toR
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    rw [show ((rpdats m ρ 0 c).arrays (rpdats m ρ 0 c).A : sProp 𝕄) = (pdats m ρ 0 c).arrays ((pdats m ρ 0 c).arrAt · 0) from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have hx : ((rpdats m ρ 0 c).arraysAt cfg0.N : sProp 𝕄) ⊢ (pdats m ρ 0 c).arrays ((pdats m ρ 0 c).arrAt · cfg0.N) := Entails.of_eq ((dat0 (V1 m ρ) c).toR_arraysAt_eq cfg0.N)
    iintro ⟨Ha, HO, HY, Hrest⟩
    ihave Ha := hx $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rpdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.RDat.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    rw [show ((rpdats m ρ 1 c).arrays (rpdats m ρ 1 c).A : sProp 𝕄) = (pdats m ρ 1 c).arrays ((pdats m ρ 1 c).arrAt · 0) from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    have hx : ((rpdats m ρ 1 c).arraysAt cfg1.N : sProp 𝕄) ⊢ (pdats m ρ 1 c).arrays ((pdats m ρ 1 c).arrAt · cfg1.N) := arraysAt1 (V3 m ρ) c
    iintro ⟨Ha, HO, HY, Hrest⟩
    ihave Ha := hx $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RDat.RegionSeg (pcfgs (F := F)) adm (rpdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose.toR
  hwaits := Pipeline.RDat.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    rw [show ((rpdats m ρ 2 c).arrays (rpdats m ρ 2 c).A : sProp 𝕄) = (pdats m ρ 2 c).arrays ((pdats m ρ 2 c).arrAt · 0) from rfl]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (rpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    have hx : ((rpdats m ρ 2 c).arraysAt cfg2.N : sProp 𝕄) ⊢ (pdats m ρ 2 c).arrays ((pdats m ρ 2 c).arrAt · cfg2.N) := Entails.of_eq ((dat2 (V4 m ρ) c).toR_arraysAt_eq cfg2.N)
    iintro ⟨Ha, HO, HY, Hrest⟩
    ihave Ha := hx $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

/-! ## @main as segments, and the launch -/

/-- @main's 6 segments in order. -/
abbrev segs : List (Pipeline.RDat.Seg (pcfgs (F := F)) adm (rpdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE RUN: from any memory with zero counters, every weakly fair execution of @main terminates, every buffer outside
    the kernels' scopes ends at the last boundary's contents `W6`, and every semaphore counter at zero. -/
theorem run_mem : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.RDat.θ_run_regions_kit_sems (pcfgs (F := F)) adm (rpdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- Every execution terminates, the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun s h => ⟨fun c =>
      ⟨(h.1 c _ (mem_uc main_arg0 (by decide))).trans (W6_args m ρ c main_arg0 (by decide)),
       (h.1 c _ (mem_uc main_arg1 (by decide))).trans (W6_args m ρ c main_arg1 (by decide)),
       (h.1 c _ (mem_uc main_arg2 (by decide))).trans (W6_args m ρ c main_arg2 (by decide)),
       (h.1 c _ (mem_uc main_arg3 (by decide))).trans (W6_args m ρ c main_arg3 (by decide)),
       (h.1 c _ (mem_uc main_arg4 (by decide))).trans (W6_args m ρ c main_arg4 (by decide)),
       (h.1 c _ (mem_uc main_arg5 (by decide))).trans (W6_args m ρ c main_arg5 (by decide)),
       (h.1 c _ (mem_uc main_arg6 (by decide))).trans (W6_args m ρ c main_arg6 (by decide)),
       (h.1 c _ (mem_uc main_arg7 (by decide))).trans (W6_args m ρ c main_arg7 (by decide)),
       (h.1 c _ (mem_uc main_arg8 (by decide))).trans (W6_args m ρ c main_arg8 (by decide)),
       (h.1 c _ (mem_uc main_arg9 (by decide))).trans (W6_args m ρ c main_arg9 (by decide)),
       (h.1 c _ (mem_uc main_arg10 (by decide))).trans (W6_args m ρ c main_arg10 (by decide))⟩, h.2⟩) (run_mem m ρ)

end Cert.KernelIdeal.Whole

end
-- ==== Proof.KI.HostValue.lean ====
/- What the program's host operations leave in the buffers they write, element by element. -/
module

public import proofs.«01_k».proof.Proof.KI.Run
public import Idealize.ShloMosaic.Lib.Claim
public import Idealize.ShloMosaic.Lib.Pointwise

@[expose] public section

set_option maxRecDepth 16384

noncomputable section

namespace Cert.KernelIdeal.Whole

open Cert.KernelIdeal.Gen
open Idealize.ShloMosaic Idealize.ShloMosaic.TcCoe

/-! ## The operations, read at an index -/

theorem mergeRows (x : Vec Ideal S128x256x768 .fp8e4m3) (b : Fin 128) (r : Fin 256) (k : Fin 768) :
    shapeCast S32768x768 x shapeCasts_S128x256x768_S32768x768 (ix2 ⟨b.val * 256 + r.val, by omega⟩ k) = x (ix3 b r k) := by
  pointwise

theorem splitRows (x : Vec Ideal S32768x768 .fp8e4m3) (b : Fin 128) (r : Fin 256) (k : Fin 768) :
    shapeCast S128x256x768 x shapeCasts_S32768x768_S128x256x768 (ix3 b r k) = x (ix2 ⟨b.val * 256 + r.val, by omega⟩ k) := by
  pointwise

theorem addMiddle (x : Vec Ideal S128x256 .f32) (b : Fin 128) (r : Fin 256) :
    shapeCast S128x1x256 x shapeCasts_S128x256_S128x1x256 (ix3 b 0 r) = x (ix2 b r) := by
  pointwise

theorem dropMiddle (x : Vec Ideal S128x1x256 .f32) (b : Fin 128) (r : Fin 256) :
    shapeCast S128x256 x shapeCasts_S128x1x256_S128x256 (ix2 b r) = x (ix3 b 0 r) := by
  pointwise

theorem asRow (x : Vec Ideal S768 .f32) (d : Fin 768) : shapeCast S1x768 x shapeCasts_S768_S1x768 (ix2 0 d) = x (ix1 d) := by
  pointwise

theorem asVocabRow (x : Vec Ideal S30522 .f32) (v : Fin 30522) :
    shapeCast S1x30522 x shapeCasts_S30522_S1x30522 (ix2 0 v) = x (ix1 v) := by
  pointwise

theorem ofVocabRow (x : Vec Ideal S1x30522 .f32) (v : Fin 30522) :
    shapeCast S30522 x shapeCasts_S1x30522_S30522 (ix1 v) = x (ix2 0 v) := by
  pointwise

theorem firstLane (x : Vec Ideal S128x128 .f32) (b : Fin 128) :
    shapeCast S128 (extractStridedSlice S128x1 ![0, 0] x slices_S128x128_S128x1_0_0) shapeCasts_S128x1_S128 (ix1 b) = x (ix2 b 0) := by
  pointwise

theorem firstEntry (x : Vec Ideal S1x128 .f32) (i : S_.Idx) :
    shapeCast S_ (extractStridedSlice S1x1 ![0, 0] x slices_S1x128_S1x1_0_0) shapeCasts_S1x1_S_ i = x (ix2 0 0) := by
  pointwise

theorem paddedRow (x : Vec Ideal S30522x768 .fp8e4m3) (v : Fin 30522) (k : Fin 768) :
    concatenate S30720x768 0 [⟨S30522x768, x⟩, ⟨S198x768, extractStridedSlice S198x768 ![0, 0] x slices_S30522x768_S198x768_0_0⟩]
      concatenates_S30522x768_S198x768_S30720x768_d0 (ix2 ⟨v.val, by omega⟩ k) = x (ix2 v k) := by
  pointwise

/-! ## The buffers they write -/

variable (W : Valuation τ sig (Elt Ideal))

theorem host0_x (b : Fin 128) (r : Fin 256) (k : Fin 768) :
    (StableHlo.after hostOps0 W (Proc.devRef .tc main_v0) : Vec Ideal S32768x768 .fp8e4m3) (ix2 ⟨b.val * 256 + r.val, by omega⟩ k)
      = (W (Proc.devRef .tc main_arg0) : Vec Ideal S128x256x768 .fp8e4m3) (ix3 b r k) := by
  after_results
  exact mergeRows _ b r k

theorem host0_xs (b : Fin 128) (r : Fin 256) :
    (StableHlo.after hostOps0 W (Proc.devRef .tc main_v1) : Vec Ideal S128x1x256 .f32) (ix3 b 0 r)
      = (W (Proc.devRef .tc main_arg1) : Vec Ideal S128x256 .f32) (ix2 b r) := by
  after_results
  exact addMiddle _ b r

theorem host0_ws (d : Fin 768) :
    (StableHlo.after hostOps0 W (Proc.devRef .tc main_v2) : Vec Ideal S1x768 .f32) (ix2 0 d)
      = (W (Proc.devRef .tc main_arg4) : Vec Ideal S768 .f32) (ix1 d) := by
  after_results
  exact asRow _ d

theorem host0_bt (d : Fin 768) :
    (StableHlo.after hostOps0 W (Proc.devRef .tc main_v3) : Vec Ideal S1x768 .f32) (ix2 0 d)
      = (W (Proc.devRef .tc main_arg5) : Vec Ideal S768 .f32) (ix1 d) := by
  after_results
  exact asRow _ d

theorem host0_ga (d : Fin 768) :
    (StableHlo.after hostOps0 W (Proc.devRef .tc main_v4) : Vec Ideal S1x768 .f32) (ix2 0 d)
      = (W (Proc.devRef .tc main_arg6) : Vec Ideal S768 .f32) (ix1 d) := by
  after_results
  exact asRow _ d

theorem host0_be (d : Fin 768) :
    (StableHlo.after hostOps0 W (Proc.devRef .tc main_v5) : Vec Ideal S1x768 .f32) (ix2 0 d)
      = (W (Proc.devRef .tc main_arg7) : Vec Ideal S768 .f32) (ix1 d) := by
  after_results
  exact asRow _ d

theorem host1_emb (v : Fin 30522) (k : Fin 768) :
    (StableHlo.after hostOps1 W (Proc.devRef .tc main_v8) : Vec Ideal S30720x768 .fp8e4m3) (ix2 ⟨v.val, by omega⟩ k)
      = (W (Proc.devRef .tc main_arg8) : Vec Ideal S30522x768 .fp8e4m3) (ix2 v k) := by
  after_results
  exact paddedRow _ v k

theorem host1_es (v : Fin 30522) :
    (StableHlo.after hostOps1 W (Proc.devRef .tc main_v9) : Vec Ideal S1x30522 .f32) (ix2 0 v)
      = (W (Proc.devRef .tc main_arg9) : Vec Ideal S30522 .f32) (ix1 v) := by
  after_results
  exact asVocabRow _ v

theorem host1_bv (v : Fin 30522) :
    (StableHlo.after hostOps1 W (Proc.devRef .tc main_v10) : Vec Ideal S1x30522 .f32) (ix2 0 v)
      = (W (Proc.devRef .tc main_arg10) : Vec Ideal S30522 .f32) (ix1 v) := by
  after_results
  exact asVocabRow _ v

theorem host3_l1 (b : Fin 128) :
    (StableHlo.after hostOps3 W (Proc.devRef .tc main_v14) : Vec Ideal S128 .f32) (ix1 b)
      = (W (Proc.devRef .tc main_v12_1) : Vec Ideal S128x128 .f32) (ix2 b 0) := by
  after_results
  exact firstLane _ b

theorem host3_mean (v : Fin 30522) :
    (StableHlo.after hostOps3 W (Proc.devRef .tc main_v15) : Vec Ideal S30522 .f32) (ix1 v)
      = (W (Proc.devRef .tc main_v12_2) : Vec Ideal S1x30522 .f32) (ix2 0 v) := by
  after_results
  exact ofVocabRow _ v

theorem host3_flops (i : S_.Idx) :
    (StableHlo.after hostOps3 W (Proc.devRef .tc main_v17) : Vec Ideal S_ .f32) i
      = (W (Proc.devRef .tc main_v12_3) : Vec Ideal S1x128 .f32) (ix2 0 0) := by
  after_results
  exact firstEntry _ i

theorem host3_z (b : Fin 128) (r : Fin 256) (k : Fin 768) :
    (StableHlo.after hostOps3 W (Proc.devRef .tc main_v18) : Vec Ideal S128x256x768 .fp8e4m3) (ix3 b r k)
      = (W (Proc.devRef .tc main_v6_0) : Vec Ideal S32768x768 .fp8e4m3) (ix2 ⟨b.val * 256 + r.val, by omega⟩ k) := by
  after_results
  exact splitRows _ b r k

theorem host3_zs (b : Fin 128) (r : Fin 256) :
    (StableHlo.after hostOps3 W (Proc.devRef .tc main_v19) : Vec Ideal S128x256 .f32) (ix2 b r)
      = (W (Proc.devRef .tc main_v6_1) : Vec Ideal S128x1x256 .f32) (ix3 b 0 r) := by
  after_results
  exact dropMiddle _ b r

theorem host3_scale (b : Fin 128) :
    (StableHlo.after hostOps3 W (Proc.devRef .tc main_v21) : Vec Ideal S128 .f32) (ix1 b)
      = (W (Proc.devRef .tc main_v12_5) : Vec Ideal S128x128 .f32) (ix2 b 0) := by
  after_results
  exact firstLane _ b

end Cert.KernelIdeal.Whole

end
-- ==== Proof.KI.TokenValue.lean ====
/- What one block of the transform computes, element by element: a token's codes and scale as the plain functions of the
   token's row. -/
module

public import proofs.«01_k».proof.Proof.Gen.KernelIdeal.Skeleton
public import proofs.«01_k».proof.Proof.Spec

@[expose] public section

set_option maxRecDepth 16384

noncomputable section

namespace Cert.KernelIdeal.Whole

open Cert.KernelIdeal.Gen Cert.Splade
open Idealize.ShloMosaic

/-- The constant named `inv_d` is `1/768`. -/
theorem inv_d : Named.named (F := Ideal) κ "inv_d" (φ := .f32) 0x3AAAAAAB#32 = ((1 / 768 : ℝ) : EReal) :=
  IdealRules.named_const.ideal_named_scalar _ _ _ _ rfl

/-- The centred activations of a block, at row `r` and column `d`. -/
theorem pay5_apply (v0 : Vec Ideal S256x768 .fp8e4m3) (v2 : Vec Ideal S768x768 .fp8e4m3) (v4 : Vec Ideal S1x1x256 .f32)
    (v12 v16 : Vec Ideal S1x768 .f32) (r : Fin 256) (d : Fin 768) :
    k0_pay5 (F := Ideal) v0 v2 v4 v12 v16 (ix2 r d)
      = centre (fun d => gelu (lin (fun k => v0 (ix2 r k)) (fun k d => v2 (ix2 k d)) (v4 (ix3 0 0 r))
          (fun d => v12 (ix2 0 d)) (fun d => v16 (ix2 0 d)) d)) d := by
  pointwise [k0_pay5]
  rw [inv_d]
  rfl

/-- The variance of row `r` of a block. -/
theorem pay6_apply (v0 : Vec Ideal S256x768 .fp8e4m3) (v2 : Vec Ideal S768x768 .fp8e4m3) (v4 : Vec Ideal S1x1x256 .f32)
    (v12 v16 : Vec Ideal S1x768 .f32) (r : Fin 256) :
    k0_pay6 (F := Ideal) v0 v2 v4 v12 v16 (ix2 r 0)
      = variance fun d => k0_pay5 (F := Ideal) v0 v2 v4 v12 v16 (ix2 r d) := by
  pointwise [k0_pay6]
  rw [inv_d]
  rfl

/-- The transformed row `r` of a block, at column `d`. -/
theorem pay1_apply (v33 : FVec Ideal S256x768 .f32) (v38 : FVec Ideal S256x1 .f32) (v44 v48 : Vec Ideal S1x768 .f32)
    (r : Fin 256) (d : Fin 768) (hv : v38 (ix2 r 0) = variance fun d => v33 (ix2 r d)) :
    k0_pay1 (F := Ideal) v33 v38 (Scalar.ofBits .f32 0x2B8CBCCC#32) v44 v48 (ix2 r d)
      = normed (fun d => v33 (ix2 r d)) (fun d => v44 (ix2 0 d)) (fun d => v48 (ix2 0 d)) d := by
  pointwise [k0_pay1]
  rw [hv]
  rfl

/-- The scale of row `r` of a block. -/
theorem pay2_apply (v33 : FVec Ideal S256x768 .f32) (v38 : FVec Ideal S256x1 .f32) (e : Ideal .f32) (v44 v48 : Vec Ideal S1x768 .f32)
    (r : Fin 256) :
    k0_pay2 (F := Ideal) v33 v38 e v44 v48 (ix2 r 0)
      = tokScale fun d => k0_pay1 (F := Ideal) v33 v38 e v44 v48 (ix2 r d) := by
  pointwise [k0_pay2]
  rfl

/-- The codes of row `r` of a block. -/
theorem pay3_apply (v33 : FVec Ideal S256x768 .f32) (v38 : FVec Ideal S256x1 .f32) (e : Ideal .f32) (v44 v48 : Vec Ideal S1x768 .f32)
    (r : Fin 256) (d : Fin 768) :
    k0_pay3 (F := Ideal) v33 v38 e v44 v48 (ix2 r d)
      = tokCode (fun d => k0_pay1 (F := Ideal) v33 v38 e v44 v48 (ix2 r d)) d := by
  have h := pay2_apply v33 v38 e v44 v48 r
  pointwise [k0_pay3]
  rw [h]
  rfl

/-- The scales as the second output stores them, along a row. -/
theorem pay4_apply (v33 : FVec Ideal S256x768 .f32) (v38 : FVec Ideal S256x1 .f32) (e : Ideal .f32) (v44 v48 : Vec Ideal S1x768 .f32)
    (r : Fin 256) :
    k0_pay4 (F := Ideal) v33 v38 e v44 v48 (ix3 0 0 r)
      = tokScale fun d => k0_pay1 (F := Ideal) v33 v38 e v44 v48 (ix2 r d) := by
  have h := pay2_apply v33 v38 e v44 v48 r
  pointwise [k0_pay4]
  exact h

end Cert.KernelIdeal.Whole

end
-- ==== Proof.KI.TransformArray.lean ====
/- What the transform's two result arrays hold after the call, element by element, of the buffers it is entered with. -/
module

public import proofs.«01_k».proof.Proof.KI.Transform
public import proofs.«01_k».proof.Proof.KI.TokenValue
public import Idealize.ShloMosaic.Lib.Pipeline.ValueKit

@[expose] public section

set_option maxRecDepth 16384

noncomputable section

namespace Cert.KernelIdeal.Whole

open Cert.KernelIdeal.Gen Cert.Splade
open Idealize.ShloMosaic Idealize.ShloMosaic.TcCoe

-- the contents of the TensorCore's buffers when the call is entered
variable (V : (c : Dev nD) → (b : Ref sig .tc) → Buf (Elt Ideal) ((c : Thread nD τ).loc b))

/-- The transformed token `r` of block `b`, of the buffers the call is entered with. -/
def rowY (c : Dev nD) (b : Fin 128) (r : Fin 256) : Fin 768 → EReal :=
  normed (centre fun d => gelu (lin (fun k => (V c main_v0 : Vec Ideal S32768x768 .fp8e4m3) (ix2 ⟨b.val * 256 + r.val, by omega⟩ k))
      (fun k d => (V c main_arg3 : Vec Ideal S768x768 .fp8e4m3) (ix2 k d)) ((V c main_v1 : Vec Ideal S128x1x256 .f32) (ix3 b 0 r))
      (fun d => (V c main_v2 : Vec Ideal S1x768 .f32) (ix2 0 d)) (fun d => (V c main_v3 : Vec Ideal S1x768 .f32) (ix2 0 d)) d))
    (fun d => (V c main_v4 : Vec Ideal S1x768 .f32) (ix2 0 d)) (fun d => (V c main_v5 : Vec Ideal S1x768 .f32) (ix2 0 d))

/-- The codes, row by row. -/
def codeArr (c : Dev nD) : Vec Ideal S32768x768 .fp8e4m3 := fun j =>
  tokCode (rowY V c ⟨(j 0).val / 256, by have h : (j 0).val < 32768 := (j 0).isLt; omega⟩ ⟨(j 0).val % 256, by omega⟩) (j 1)

/-- The scales. -/
def scaleArr (c : Dev nD) : Vec Ideal S128x1x256 .f32 := fun j => tokScale (rowY V c (j 0) (j 2))

/-- Which block each window takes at each point. -/
theorem idx0 : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0, 0] :=
  (by decide +kernel : ∀ t : Fin grid0.N, _)

/-- What the body computes of row `r` of its block is the transformed token. -/
theorem blkY (c : Dev nD) (t : Fin cfg0.N) (r : Fin 256) (d : Fin 768) (ht : t.val < 128) :
    k0_pay1 (F := Ideal) (k0_pay5 (iblk0 V c 0 t) (iblk0 V c 2 t) (iblk0 V c 1 t) (iblk0 V c 3 t) (iblk0 V c 4 t))
      (k0_pay6 (iblk0 V c 0 t) (iblk0 V c 2 t) (iblk0 V c 1 t) (iblk0 V c 3 t) (iblk0 V c 4 t)) (Scalar.ofBits .f32 0x2B8CBCCC#32)
      (iblk0 V c 5 t) (iblk0 V c 6 t) (ix2 r d) = rowY V c ⟨t.val, ht⟩ r d := by
  obtain ⟨e0, e1, e2, e3, e4, e5, e6, e7, e8⟩ := idx0 t
  rw [pay1_apply _ _ _ _ _ _ (pay6_apply _ _ _ _ _ _)]
  simp only [pay5_apply]
  unfold rowY
  have h0 : ∀ k, iblk0 V c 0 t (ix2 r k) = (V c main_v0 : Vec Ideal S32768x768 .fp8e4m3) (ix2 ⟨t.val * 256 + r.val, by omega⟩ k) := by
    intro k
    blk_simp [iblk0]
    congr 1
    blk_ext [e0]
  have h2 : ∀ k d, iblk0 V c 2 t (ix2 k d) = (V c main_arg3 : Vec Ideal S768x768 .fp8e4m3) (ix2 k d) := by
    intro k d
    blk_simp [iblk0]
    congr 1
    blk_ext [e2]
  have h1 : iblk0 V c 1 t (ix3 0 0 r) = (V c main_v1 : Vec Ideal S128x1x256 .f32) (ix3 ⟨t.val, ht⟩ 0 r) := by
    blk_simp [iblk0]
    congr 1
    blk_ext [e1]
  have h3 : ∀ d, iblk0 V c 3 t (ix2 0 d) = (V c main_v2 : Vec Ideal S1x768 .f32) (ix2 0 d) := by
    intro d
    blk_simp [iblk0]
    congr 1
    blk_ext [e3]
  have h4 : ∀ d, iblk0 V c 4 t (ix2 0 d) = (V c main_v3 : Vec Ideal S1x768 .f32) (ix2 0 d) := by
    intro d
    blk_simp [iblk0]
    congr 1
    blk_ext [e4]
  have h5 : ∀ d, iblk0 V c 5 t (ix2 0 d) = (V c main_v4 : Vec Ideal S1x768 .f32) (ix2 0 d) := by
    intro d
    blk_simp [iblk0]
    congr 1
    blk_ext [e5]
  have h6 : ∀ d, iblk0 V c 6 t (ix2 0 d) = (V c main_v5 : Vec Ideal S1x768 .f32) (ix2 0 d) := by
    intro d
    blk_simp [iblk0]
    congr 1
    blk_ext [e6]
  simp only [h0, h1, h2, h3, h4, h5, h6]

/-- The activations as the body binds them, of whole blocks. -/
theorem v33_eq (x0 : Vec Ideal S256x768 .fp8e4m3) (x1 : Vec Ideal S1x1x256 .f32) (x2 : Vec Ideal S768x768 .fp8e4m3)
    (x3 x4 x5 x6 : Vec Ideal S1x768 .f32) : k0_pay7 (F := Ideal) x0 x1 x2 x3 x4 x5 x6 = k0_pay5 x0 x2 x1 x3 x4 := by
  unfold k0_pay7
  simp (disch := decide) only [View.ld_unit_lit']

/-- The variances as the body binds them, of whole blocks. -/
theorem v38_eq (x0 : Vec Ideal S256x768 .fp8e4m3) (x1 : Vec Ideal S1x1x256 .f32) (x2 : Vec Ideal S768x768 .fp8e4m3)
    (x3 x4 x5 x6 : Vec Ideal S1x768 .f32) : k0_pay8 (F := Ideal) x0 x1 x2 x3 x4 x5 x6 = k0_pay6 x0 x2 x1 x3 x4 := by
  unfold k0_pay8
  simp (disch := decide) only [View.ld_unit_lit']

/-- The codes at row `r` of block `b`. -/
theorem codeArr_at (c : Dev nD) (b : Fin 128) (r : Fin 256) (d : Fin 768) :
    codeArr V c (ix2 ⟨b.val * 256 + r.val, by omega⟩ d) = tokCode (rowY V c b r) d := by
  have hb : (⟨(b.val * 256 + r.val) / 256, by omega⟩ : Fin 128) = b := Fin.ext (by show _ / 256 = _; omega)
  have hr : (⟨(b.val * 256 + r.val) % 256, by omega⟩ : Fin 256) = r := Fin.ext (by show _ % 256 = _; omega)
  show tokCode (rowY V c ⟨(b.val * 256 + r.val) / 256, _⟩ ⟨(b.val * 256 + r.val) % 256, _⟩) d = _
  rw [hb, hr]

/-- The block the first output leaves, at row `r`. -/
theorem blk7 (c : Dev nD) (t : Fin cfg0.N) (r : Fin 256) (d : Fin 768) (ht : t.val < 128) :
    out0_7 (iblk0 V c 0 t) (iblk0 V c 1 t) (iblk0 V c 2 t) (iblk0 V c 3 t) (iblk0 V c 4 t) (iblk0 V c 5 t) (iblk0 V c 6 t) (ix2 r d)
      = tokCode (rowY V c ⟨t.val, ht⟩ r) d := by
  frame_out
  rw [v33_eq, v38_eq, pay3_apply]
  exact congrArg (fun y => tokCode y d) (funext fun d => blkY V c t r d ht)

/-- The block the second output leaves, at row `r`. -/
theorem blk8 (c : Dev nD) (t : Fin cfg0.N) (r : Fin 256) (ht : t.val < 128) :
    out0_8 (iblk0 V c 0 t) (iblk0 V c 1 t) (iblk0 V c 2 t) (iblk0 V c 3 t) (iblk0 V c 4 t) (iblk0 V c 5 t) (iblk0 V c 6 t) (ix3 0 0 r)
      = tokScale (rowY V c ⟨t.val, ht⟩ r) := by
  frame_out
  rw [v33_eq, v38_eq, pay4_apply]
  exact congrArg tokScale (funext fun d => blkY V c t r d ht)

/-- The transform's first result array holds the codes. -/
theorem arr0_7 (c : Dev nD) : (dat0 V c).arrAt 7 cfg0.N = codeArr V c := by
  refine (dat0 V c).arrAt_eq_of_covers 7 _ (by decide +kernel) fun t hf y => ?_
  blk_simp
  rw [after0_7]
  obtain ⟨r, d, rfl⟩ : ∃ (r : Fin 256) (d : Fin 768), y = ix2 r d := ⟨y 0, y 1, eq_ix2 y⟩
  have ht : t.val < 128 := lt_of_lt_of_le t.isLt (by decide)
  have e7 := (idx0 t).2.2.2.2.2.2.2.1
  have hi : ((View.whole main_v6_0).slice (win0_7.rect t)).emb (ix2 r d)
      = (ix2 (⟨t.val * 256 + r.val, by omega⟩ : Fin 32768) d : S32768x768.Idx) := by
    blk_ext [e7]
  refine (blk7 V c t r d ht).trans ?_
  rw [hi]
  exact (codeArr_at V c ⟨t.val, ht⟩ r d).symm

/-- The transform's second result array holds the scales. -/
theorem arr0_8 (c : Dev nD) : (dat0 V c).arrAt 8 cfg0.N = scaleArr V c := by
  refine (dat0 V c).arrAt_eq_of_covers 8 _ (by decide +kernel) fun t hf y => ?_
  blk_simp
  rw [after0_8]
  obtain ⟨r, rfl⟩ : ∃ (r : Fin 256), y = ix3 (0 : Fin 1) (0 : Fin 1) r :=
    ⟨y 2, (eq_ix3 y).trans (by rw [Fin.fin_one_eq_zero (y 0), Fin.fin_one_eq_zero (y 1)])⟩
  have ht : t.val < 128 := lt_of_lt_of_le t.isLt (by decide)
  have e8 := (idx0 t).2.2.2.2.2.2.2.2
  have hi : ((View.whole main_v6_1).slice (win0_8.rect t)).emb (ix3 (0 : Fin 1) (0 : Fin 1) r)
      = (ix3 (⟨t.val, ht⟩ : Fin 128) (0 : Fin 1) r : S128x1x256.Idx) := by
    blk_ext [e8]
  refine (blk8 V c t r ht).trans ?_
  rw [hi]
  rfl

end Cert.KernelIdeal.Whole

end
-- ==== Proof.KI.LogitValue.lean ====
/- What one step of the decode computes, element by element: the greatest masked logit of one document and one
   vocabulary entry. -/
module

public import proofs.«01_k».proof.Proof.Gen.KernelIdeal.Skeleton
public import proofs.«01_k».proof.Proof.Spec

@[expose] public section

set_option maxRecDepth 16384

noncomputable section

namespace Cert.KernelIdeal.Whole

open Cert.KernelIdeal.Gen Cert.Splade
open Idealize.ShloMosaic

/-- The row of one document and one tile of entries, at column `q`. -/
theorem logitRow_apply (v0 : Vec Ideal S1x1x256 .f32) (v6 : Vec Ideal S256x768 .fp8e4m3) (v8 : Vec Ideal S2048x768 .fp8e4m3)
    (v13 v17 : Vec Ideal S1x2048 .f32) (v23 : Elt Ideal .i32) (q : Fin 2048) :
    k1_pay1 (F := Ideal) v0 v6 v8 v13 v17 v23 (ix2 0 q)
      = docMax v23 (fun r k => v6 (ix2 r k)) (fun r => v0 (ix3 0 0 r)) (fun k => v8 (ix2 q k)) (v13 (ix2 0 q)) (v17 (ix2 0 q)) := by
  pointwise [k1_pay1]
  rfl

end Cert.KernelIdeal.Whole

end
-- ==== Proof.KI.DecodeArray.lean ====
/- What the decode's result array holds after the call, element by element, of the buffers it is entered with. -/
module

public import proofs.«01_k».proof.Proof.KI.Decode
public import proofs.«01_k».proof.Proof.KI.LogitValue
public import Idealize.ShloMosaic.Lib.Pipeline.ValueKit

@[expose] public section

set_option maxRecDepth 16384

noncomputable section

namespace Cert.KernelIdeal.Whole

open Cert.KernelIdeal.Gen Cert.Splade
open Idealize.ShloMosaic Idealize.ShloMosaic.TcCoe Idealize.ShloMosaic.Pipeline

-- the contents of the TensorCore's buffers when the call is entered
variable (V : (c : Dev nD) → (b : Ref sig .tc) → Buf (Elt Ideal) ((c : Thread nD τ).loc b))

/-- The greatest logit of entry `v` in document `b`, of the buffers the call is entered with. -/
def maxAt (c : Dev nD) (b : Fin 128) (v : Fin 30522) : EReal :=
  docMax ((V c main_arg2 : Vec Ideal S128 .i32) (ix1 b))
    (fun r k => (V c main_v6_0 : Vec Ideal S32768x768 .fp8e4m3) (ix2 ⟨b.val * 256 + r.val, by omega⟩ k))
    (fun r => (V c main_v6_1 : Vec Ideal S128x1x256 .f32) (ix3 b 0 r))
    (fun k => (V c main_v8 : Vec Ideal S30720x768 .fp8e4m3) (ix2 ⟨v.val, by omega⟩ k))
    ((V c main_v9 : Vec Ideal S1x30522 .f32) (ix2 0 v)) ((V c main_v10 : Vec Ideal S1x30522 .f32) (ix2 0 v))

/-- The greatest logits. -/
def maxArr (c : Dev nD) : Vec Ideal S128x30522 .f32 := fun j => maxAt V c (j 0) (j 1)

/-- Which block each window takes at each point. -/
theorem idx1 : ∀ t : Fin cfg1.N, win1_0.index t = ![0] ∧ win1_1.index t = ![t.val % 128, 0] ∧ win1_2.index t = ![t.val % 128, 0, 0]
    ∧ win1_3.index t = ![t.val / 128, 0] ∧ win1_4.index t = ![0, t.val / 128] ∧ win1_5.index t = ![0, t.val / 128]
    ∧ win1_6.index t = ![0, t.val / 128] :=
  (by decide +kernel : ∀ t : Fin grid1.N, _)

/-- The scale block at a column inside the array. -/
theorem esb_apply (c : Dev nD) (t : Fin cfg1.N) (q : Fin 2048) (hq : t.val / 128 * 2048 + q.val < 30522) :
    esb V c t (ix2 0 q) = (V c main_v9 : Vec Ideal S1x30522 .f32) (ix2 0 ⟨t.val / 128 * 2048 + q.val, hq⟩) := by
  have e4 := (idx1 t).2.2.2.2.1
  have h : (cfg1.win 4).moved (cfg1.grid.coords t) (ix2 0 q) = true := by
    rw [Window.moved_iff]
    intro a
    match a with
    | ⟨0, _⟩ => exact lt_extent (ix := 0) (k := 1) (d := 1) (j := 0) (by decide) (by decide)
    | ⟨1, _⟩ =>
      refine lt_extent (ix := cc1_transform_4 (grid1.coords t) 1) (k := 2048) (d := 30522) (j := q.val) q.isLt ?_
      have e : cc1_transform_4 (grid1.coords t) 1 = (BitVec.ofNat 32 (grid1.coords t 0).val).toNat := rfl
      rw [e, coords1_0, BitVec.toNat_ofNat]
      have := t.isLt
      have h : cfg1.N = 1920 := N_1
      omega
  unfold esb Window.fill
  rw [dif_pos h]
  blk_simp [iblk1]
  congr 1
  blk_ext [e4]

/-- The bias block at a column inside the array. -/
theorem bvb_apply (c : Dev nD) (t : Fin cfg1.N) (q : Fin 2048) (hq : t.val / 128 * 2048 + q.val < 30522) :
    bvb V c t (ix2 0 q) = (V c main_v10 : Vec Ideal S1x30522 .f32) (ix2 0 ⟨t.val / 128 * 2048 + q.val, hq⟩) := by
  have e5 := (idx1 t).2.2.2.2.2.1
  have h : (cfg1.win 5).moved (cfg1.grid.coords t) (ix2 0 q) = true := by
    rw [Window.moved_iff]
    intro a
    match a with
    | ⟨0, _⟩ => exact lt_extent (ix := 0) (k := 1) (d := 1) (j := 0) (by decide) (by decide)
    | ⟨1, _⟩ =>
      refine lt_extent (ix := cc1_transform_5 (grid1.coords t) 1) (k := 2048) (d := 30522) (j := q.val) q.isLt ?_
      have e : cc1_transform_5 (grid1.coords t) 1 = (BitVec.ofNat 32 (grid1.coords t 0).val).toNat := rfl
      rw [e, coords1_0, BitVec.toNat_ofNat]
      have := t.isLt
      have h : cfg1.N = 1920 := N_1
      omega
  unfold bvb Window.fill
  rw [dif_pos h]
  blk_simp [iblk1]
  congr 1
  blk_ext [e5]

/-- The row stored at point `t`, at a column inside the array. -/
theorem rowAt_apply (c : Dev nD) (t : Fin cfg1.N) (q : Fin 2048) (hq : t.val / 128 * 2048 + q.val < 30522) :
    rowAt V c t (ix2 0 q) = maxAt V c (docOf t) ⟨t.val / 128 * 2048 + q.val, hq⟩ := by
  obtain ⟨e0, e1, e2, e3, -, -, -⟩ := idx1 t
  unfold rowAt maxAt
  have hn : iblk1 V c 0 t (ix1 (docOf t)) = (V c main_arg2 : Vec Ideal S128 .i32) (ix1 (docOf t)) := by
    blk_simp [iblk1]
    congr 1
    blk_ext [e0]
  have hz : ∀ (r : Fin 256) (k : Fin 768), iblk1 V c 1 t (ix2 r k)
      = (V c main_v6_0 : Vec Ideal S32768x768 .fp8e4m3) (ix2 ⟨(docOf t).val * 256 + r.val, by omega⟩ k) := by
    intro r k
    blk_simp [iblk1]
    congr 1
    unfold docOf
    blk_ext [e1]
  have hs : ∀ r : Fin 256, iblk1 V c 2 t (ix3 0 0 r) = (V c main_v6_1 : Vec Ideal S128x1x256 .f32) (ix3 (docOf t) 0 r) := by
    intro r
    blk_simp [iblk1]
    congr 1
    unfold docOf
    blk_ext [e2]
  have he : ∀ k : Fin 768, iblk1 V c 3 t (ix2 q k)
      = (V c main_v8 : Vec Ideal S30720x768 .fp8e4m3) (ix2 ⟨t.val / 128 * 2048 + q.val, by omega⟩ k) := by
    intro k
    blk_simp [iblk1]
    congr 1
    blk_ext [e3]
  rw [logitRow_apply, esb_apply V c t q hq, bvb_apply V c t q hq, hn]
  simp only [hz, hs, he]

/-- The decode's result array holds the greatest logits. -/
theorem arr1_6 (c : Dev nD) : (dat1 V c).arrAt 6 cfg1.N = maxArr V c := by
  refine (dat1 V c).arrAt_eq_of_covers 6 _ (by decide +kernel) fun t hf y => ?_
  have e6 := (idx1 t).2.2.2.2.2.2
  blk_simp
  rw [after1_6]
  have htl : t.val < 1920 := by
    have h : cfg1.grid.N = 1920 := N_1
    have := t.isLt
    omega
  have h0 : (y 0).val < 128 := Nat.lt_of_lt_of_le (y 0).isLt ((cfg1.win 6).xsize_le (cfg1.grid.coords t) 0)
  have h1 : (y 1).val < 2048 := Nat.lt_of_lt_of_le (y 1).isLt ((cfg1.win 6).xsize_le (cfg1.grid.coords t) 1)
  have hin : t.val / 128 * 2048 + (y 1).val < 30522 := by
    have hi : cc1_transform_6 (grid1.coords t) 1 * 2048 + (Pipeline.Clip.of (cc1_transform_6 (grid1.coords t) 1) 2048 30522).extent 2048 ≤ 30522 :=
      Pipeline.Clip.inb (Pipeline.Clip.ok_of (hstart1_6 (grid1.coords t) 1))
    have hj : (y 1).val < (Pipeline.Clip.of (cc1_transform_6 (grid1.coords t) 1) 2048 30522).extent 2048 := (y 1).isLt
    have e : cc1_transform_6 (grid1.coords t) 1 = (BitVec.ofNat 32 (grid1.coords t 0).val).toNat := rfl
    rw [e, coords1_0, BitVec.toNat_ofNat, Nat.mod_eq_of_lt (by omega)] at hi hj
    omega
  have ej : (cfg1.win 6).xinj (cfg1.grid.coords t) y = (ix2 (⟨(y 0).val, h0⟩ : Fin 128) (⟨(y 1).val, h1⟩ : Fin 2048) : S128x2048.Idx) := by
    funext a
    match a with
    | ⟨0, _⟩ => rfl
    | ⟨1, _⟩ => rfl
  have hi : (win1_6.blk t).view.emb y
      = (ix2 (⟨(y 0).val, h0⟩ : Fin 128) (⟨t.val / 128 * 2048 + (y 1).val, hin⟩ : Fin 30522) : S128x30522.Idx) := by
    blk_ext [e6]
  rw [ej, hi]
  generalize (y 0).val = b at *
  generalize (y 1).val = q at *
  have ht : (t.val / 128 * 128 + b) / 128 = t.val / 128 := by omega
  have hq : (t.val / 128 * 128 + b) / 128 * 2048 + q < 30522 := by rw [ht]; exact hin
  refine (rowAt_apply V c ⟨t.val / 128 * 128 + b, pt_lt t ⟨b, h0⟩⟩ ⟨q, h1⟩ hq).trans ?_
  have hd : docOf ⟨t.val / 128 * 128 + b, pt_lt t ⟨b, h0⟩⟩ = ⟨b, h0⟩ :=
    Fin.ext (by show (t.val / 128 * 128 + b) % 128 = b; omega)
  have hv : (⟨(t.val / 128 * 128 + b) / 128 * 2048 + q, hq⟩ : Fin 30522) = ⟨t.val / 128 * 2048 + q, hin⟩ :=
    Fin.ext (by show _ / 128 * 2048 + q = _; rw [ht])
  exact congrArg₂ (maxAt V c) hd hv

end Cert.KernelIdeal.Whole

end
-- ==== Proof.KI.WeightValue.lean ====
/- What one block of the finalize call computes, element by element. -/
module

public import proofs.«01_k».proof.Proof.Gen.KernelIdeal.Skeleton
public import proofs.«01_k».proof.Proof.Spec

@[expose] public section

set_option maxRecDepth 16384

noncomputable section

namespace Cert.KernelIdeal.Whole

open Cert.KernelIdeal.Gen Cert.Splade
open Idealize.ShloMosaic

/-- The weights of a block of 32 documents. -/
theorem weight_apply (v0 : Vec Ideal S32x30522 .f32) (r : Fin 32) (v : Fin 30522) :
    k2_pay4 (F := Ideal) v0 (ix2 r v) = weight (v0 (ix2 r v)) := by
  pointwise [k2_pay4]
  rfl

/-- The scales of the block's u8 codes. -/
theorem scale_apply (v0 : Vec Ideal S32x30522 .f32) (r : Fin 32) :
    k2_pay5 (F := Ideal) v0 (ix2 r 0) = docScale fun v => k2_pay4 (F := Ideal) v0 (ix2 r v) := by
  pointwise [k2_pay5]
  rfl

/-- The block's u8 codes. -/
theorem codes_apply (v0 : Vec Ideal S32x30522 .f32) (r : Fin 32) (v : Fin 30522) :
    k2_pay6 (F := Ideal) v0 (ix2 r v) = impact (fun v => k2_pay4 (F := Ideal) v0 (ix2 r v)) v := by
  have h := scale_apply v0 r
  pointwise [k2_pay6]
  rw [h]
  rfl

/-- Each document's sum of weights, in every lane. -/
theorem l1_apply (v0 : Vec Ideal S32x30522 .f32) (r : Fin 32) (l : Fin 128) :
    k2_pay7 (F := Ideal) v0 (ix2 r l) = ∑ v, k2_pay4 (F := Ideal) v0 (ix2 r v) := by
  pointwise [k2_pay7]

/-- The scales, in every lane. -/
theorem scaleLanes_apply (v0 : Vec Ideal S32x30522 .f32) (r : Fin 32) (l : Fin 128) :
    k2_pay8 (F := Ideal) v0 (ix2 r l) = docScale fun v => k2_pay4 (F := Ideal) v0 (ix2 r v) := by
  have h := scale_apply v0 r
  pointwise [k2_pay8]
  exact h

/-- The sum of the block's weights of one vocabulary entry. -/
theorem colSum_apply (v0 : Vec Ideal S32x30522 .f32) (v : Fin 30522) :
    k2_pay9 (F := Ideal) v0 (ix2 0 v) = ∑ r, k2_pay4 (F := Ideal) v0 (ix2 r v) := by
  pointwise [k2_pay9]

/-- A block's sum added to the sum kept so far. -/
theorem accSum_apply (a s : Vec Ideal S1x30522 .f32) (v : Fin 30522) :
    k2_pay1 (F := Ideal) a s (ix2 0 v) = s (ix2 0 v) + a (ix2 0 v) := by
  pointwise [k2_pay1]

/-- The means: the sums over all documents times `1/128`. -/
theorem mean_apply (s : Vec Ideal S1x30522 .f32) (v : Fin 30522) :
    k2_pay2 (F := Ideal) s (ix2 0 v) = s (ix2 0 v) * ((1 / 128 : ℝ) : EReal) := by
  pointwise [k2_pay2]
  rw [ofBits_inv_128]

/-- The sum of the squared means, in every lane. -/
theorem flops_apply (s : Vec Ideal S1x30522 .f32) (l : Fin 128) :
    k2_pay3 (F := Ideal) s (ix2 0 l) = ∑ v, k2_pay2 (F := Ideal) s (ix2 0 v) * k2_pay2 (F := Ideal) s (ix2 0 v) := by
  pointwise [k2_pay3]

end Cert.KernelIdeal.Whole

end
-- ==== Proof.KI.FinalizeArray.lean ====
/- What each point of the finalize leaves in its output buffers. -/
module

public import proofs.«01_k».proof.Proof.KI.Finalize
public import proofs.«01_k».proof.Proof.KI.WeightValue
public import Idealize.ShloMosaic.Lib.Pipeline.ValueKit

@[expose] public section

set_option maxRecDepth 16384

noncomputable section

namespace Cert.KernelIdeal.Whole

open Cert.KernelIdeal.Gen Cert.Splade
open Idealize.ShloMosaic Idealize.ShloMosaic.TcCoe

-- the contents of the TensorCore's buffers when the call is entered
variable (V : (c : Dev nD) → (b : Ref sig .tc) → Buf (Elt Ideal) ((c : Thread nD τ).loc b))

/-- The weights' block. -/
theorem out_1 (c : Dev nD) (t : Fin cfg2.N) : (outsAt2 V c t.val t.isLt).1 = k2_pay4 (iblk2 V c 0 t) := by
  by_cases h0 : t.val % 4 = 0
  · have hN : cfg2.N = 4 := N_2
    have := t.isLt
    rw [outsAt2_A V c t h0 (by omega) (by omega)]
    frame_out
  · by_cases h2 : t.val % 4 = 3
    · rw [outsAt2_C V c t h0 (by omega) h2]
      frame_out
    · rw [outsAt2_B V c t h0 (by omega) h2]
      frame_out

/-- The block of the documents' sums. -/
theorem out_2 (c : Dev nD) (t : Fin cfg2.N) : (outsAt2 V c t.val t.isLt).2.1 = k2_pay7 (iblk2 V c 0 t) := by
  by_cases h0 : t.val % 4 = 0
  · have hN : cfg2.N = 4 := N_2
    have := t.isLt
    rw [outsAt2_A V c t h0 (by omega) (by omega)]
    frame_out
  · by_cases h2 : t.val % 4 = 3
    · rw [outsAt2_C V c t h0 (by omega) h2]
      frame_out
    · rw [outsAt2_B V c t h0 (by omega) h2]
      frame_out

/-- The codes' block. -/
theorem out_5 (c : Dev nD) (t : Fin cfg2.N) : (outsAt2 V c t.val t.isLt).2.2.2.2.1 = k2_pay6 (iblk2 V c 0 t) := by
  by_cases h0 : t.val % 4 = 0
  · have hN : cfg2.N = 4 := N_2
    have := t.isLt
    rw [outsAt2_A V c t h0 (by omega) (by omega)]
    frame_out
  · by_cases h2 : t.val % 4 = 3
    · rw [outsAt2_C V c t h0 (by omega) h2]
      frame_out
    · rw [outsAt2_B V c t h0 (by omega) h2]
      frame_out

/-- The scales' block. -/
theorem out_6 (c : Dev nD) (t : Fin cfg2.N) : (outsAt2 V c t.val t.isLt).2.2.2.2.2 = k2_pay8 (iblk2 V c 0 t) := by
  by_cases h0 : t.val % 4 = 0
  · have hN : cfg2.N = 4 := N_2
    have := t.isLt
    rw [outsAt2_A V c t h0 (by omega) (by omega)]
    frame_out
  · by_cases h2 : t.val % 4 = 3
    · rw [outsAt2_C V c t h0 (by omega) h2]
      frame_out
    · rw [outsAt2_B V c t h0 (by omega) h2]
      frame_out

/-- The sums kept at the first point. -/
theorem sum_A (c : Dev nD) (t : Fin cfg2.N) (h0 : t.val = 0) : (outsAt2 V c t.val t.isLt).2.2.1 = k2_pay9 (iblk2 V c 0 t) := by
  rw [outsAt2_A V c t (by omega) (by omega) (by omega)]
  frame_out

/-- The sums kept at a middle point. -/
theorem sum_B (c : Dev nD) (t : Fin cfg2.N) (h0 : ¬t.val % 4 = 0) (h2 : ¬t.val % 4 = 3) :
    (outsAt2 V c t.val t.isLt).2.2.1 = k2_pay1 (k2_pay9 (iblk2 V c 0 t))
      (outsAt2 V c (t.val - 1) (Nat.lt_of_le_of_lt (Nat.sub_le _ _) t.isLt)).2.2.1 := by
  rw [outsAt2_B V c t h0 (by omega) h2]
  frame_out

/-- The means, at the last point. -/
theorem sum_C (c : Dev nD) (t : Fin cfg2.N) (h0 : ¬t.val % 4 = 0) (h2 : t.val % 4 = 3) :
    (outsAt2 V c t.val t.isLt).2.2.1 = k2_pay2 (k2_pay1 (k2_pay9 (iblk2 V c 0 t))
      (outsAt2 V c (t.val - 1) (Nat.lt_of_le_of_lt (Nat.sub_le _ _) t.isLt)).2.2.1) := by
  rw [outsAt2_C V c t h0 (by omega) h2]
  frame_out

/-- The sum of the squared means, at the last point. -/
theorem flops_C (c : Dev nD) (t : Fin cfg2.N) (h0 : ¬t.val % 4 = 0) (h2 : t.val % 4 = 3) :
    (outsAt2 V c t.val t.isLt).2.2.2.1 = k2_pay3 (k2_pay1 (k2_pay9 (iblk2 V c 0 t))
      (outsAt2 V c (t.val - 1) (Nat.lt_of_le_of_lt (Nat.sub_le _ _) t.isLt)).2.2.1) := by
  rw [outsAt2_C V c t h0 (by omega) h2]
  frame_out

/-! ## The arrays -/

/-- The weight of entry `v` in document `b`, of the buffers the call is entered with. -/
def wAt (c : Dev nD) (b : Fin 128) (v : Fin 30522) : EReal := weight ((V c main_v11 : Vec Ideal S128x30522 .f32) (ix2 b v))

/-- Its mean over the documents. -/
def meanAt (c : Dev nD) (v : Fin 30522) : EReal := (∑ b, wAt V c b v) * ((1 / 128 : ℝ) : EReal)

/-- Which block each window takes at each point. -/
theorem idx2 : ∀ t : Fin cfg2.N, win2_0.index t = ![t.val, 0] ∧ win2_1.index t = ![t.val, 0] ∧ win2_2.index t = ![t.val, 0]
    ∧ win2_3.index t = ![0, 0] ∧ win2_4.index t = ![0, 0] ∧ win2_5.index t = ![t.val, 0] ∧ win2_6.index t = ![t.val, 0] :=
  (by decide +kernel : ∀ t : Fin grid2.N, _)

/-- The weights of a block. -/
theorem blkW (c : Dev nD) (t : Fin cfg2.N) (r : Fin 32) (v : Fin 30522) (ht : t.val < 4) :
    k2_pay4 (F := Ideal) (iblk2 V c 0 t) (ix2 r v) = wAt V c ⟨t.val * 32 + r.val, by omega⟩ v := by
  have e0 := (idx2 t).1
  rw [weight_apply]
  unfold wAt
  congr 1
  blk_simp [iblk2]
  congr 1
  blk_ext [e0]

/-- The first result array holds the weights. -/
theorem arr2_1 (c : Dev nD) : (dat2 V c).arrAt 1 cfg2.N = (fun j => wAt V c (j 0) (j 1) : Vec Ideal S128x30522 .f32) := by
  refine (dat2 V c).arrAt_eq_of_covers 1 _ (by decide +kernel) fun t hf y => ?_
  blk_simp
  rw [after2_1, out_1]
  obtain ⟨r, v, rfl⟩ : ∃ (r : Fin 32) (v : Fin 30522), y = ix2 r v := ⟨y 0, y 1, eq_ix2 y⟩
  have ht : t.val < 4 := lt_of_lt_of_le t.isLt (by decide)
  have e := (idx2 t).2.1
  have hi : ((View.whole main_v12_0).slice (win2_1.rect t)).emb (ix2 r v)
      = (ix2 (⟨t.val * 32 + r.val, by omega⟩ : Fin 128) v : S128x30522.Idx) := by
    blk_ext [e]
  refine (blkW V c t r v ht).trans ?_
  rw [hi]
  rfl

/-- The second result array holds each document's sum, in every lane. -/
theorem arr2_2 (c : Dev nD) : (dat2 V c).arrAt 2 cfg2.N = (fun j => ∑ v, wAt V c (j 0) v : Vec Ideal S128x128 .f32) := by
  refine (dat2 V c).arrAt_eq_of_covers 2 _ (by decide +kernel) fun t hf y => ?_
  blk_simp
  rw [after2_2, out_2]
  obtain ⟨r, l, rfl⟩ : ∃ (r : Fin 32) (l : Fin 128), y = ix2 r l := ⟨y 0, y 1, eq_ix2 y⟩
  have ht : t.val < 4 := lt_of_lt_of_le t.isLt (by decide)
  have e := (idx2 t).2.2.1
  have hi : ((View.whole main_v12_1).slice (win2_2.rect t)).emb (ix2 r l)
      = (ix2 (⟨t.val * 32 + r.val, by omega⟩ : Fin 128) l : S128x128.Idx) := by
    blk_ext [e]
  refine (l1_apply _ r l).trans ?_
  rw [hi]
  exact Finset.sum_congr rfl fun v _ => blkW V c t r v ht

/-- The fifth result array holds the codes. -/
theorem arr2_5 (c : Dev nD) : (dat2 V c).arrAt 5 cfg2.N = (fun j => impact (wAt V c (j 0)) (j 1) : Vec Ideal S128x30522 .i8) := by
  refine (dat2 V c).arrAt_eq_of_covers 5 _ (by decide +kernel) fun t hf y => ?_
  blk_simp
  rw [after2_5, out_5]
  obtain ⟨r, v, rfl⟩ : ∃ (r : Fin 32) (v : Fin 30522), y = ix2 r v := ⟨y 0, y 1, eq_ix2 y⟩
  have ht : t.val < 4 := lt_of_lt_of_le t.isLt (by decide)
  have e := (idx2 t).2.2.2.2.2.1
  have hi : ((View.whole main_v12_4).slice (win2_5.rect t)).emb (ix2 r v)
      = (ix2 (⟨t.val * 32 + r.val, by omega⟩ : Fin 128) v : S128x30522.Idx) := by
    blk_ext [e]
  refine (codes_apply _ r v).trans ?_
  rw [hi]
  exact congrArg (fun w => impact w v) (funext fun v => blkW V c t r v ht)

/-- The sixth result array holds the codes' scales, in every lane. -/
theorem arr2_6 (c : Dev nD) : (dat2 V c).arrAt 6 cfg2.N = (fun j => docScale (wAt V c (j 0)) : Vec Ideal S128x128 .f32) := by
  refine (dat2 V c).arrAt_eq_of_covers 6 _ (by decide +kernel) fun t hf y => ?_
  blk_simp
  rw [after2_6, out_6]
  obtain ⟨r, l, rfl⟩ : ∃ (r : Fin 32) (l : Fin 128), y = ix2 r l := ⟨y 0, y 1, eq_ix2 y⟩
  have ht : t.val < 4 := lt_of_lt_of_le t.isLt (by decide)
  have e := (idx2 t).2.2.2.2.2.2
  have hi : ((View.whole main_v12_5).slice (win2_6.rect t)).emb (ix2 r l)
      = (ix2 (⟨t.val * 32 + r.val, by omega⟩ : Fin 128) l : S128x128.Idx) := by
    blk_ext [e]
  refine (scaleLanes_apply _ r l).trans ?_
  rw [hi]
  exact congrArg docScale (funext fun v => blkW V c t r v ht)

/-! ## The sum over the blocks -/

/-- One block's sum of an entry's weights. -/
def blockSum (c : Dev nD) (v : Fin 30522) (i : Fin 4) : EReal := ∑ r : Fin 32, wAt V c ⟨i.val * 32 + r.val, by omega⟩ v

/-- The sum over the documents, block by block. -/
theorem sum_blocks (c : Dev nD) (v : Fin 30522) :
    blockSum V c v 0 + blockSum V c v 1 + blockSum V c v 2 + blockSum V c v 3 = ∑ b, wAt V c b v := by
  rw [← Fin.sum_univ_four (blockSum V c v), ← (finProdFinEquiv (m := 4) (n := 32)).sum_comp, Fintype.sum_prod_type]
  refine Finset.sum_congr rfl fun i _ => Finset.sum_congr rfl fun r _ => ?_
  refine congrArg (fun b => wAt V c b v) (Fin.ext ?_)
  show i.val * 32 + r.val = r.val + 32 * i.val
  omega

theorem colBlk (c : Dev nD) (t : Fin cfg2.N) (v : Fin 30522) (ht : t.val < 4) :
    k2_pay9 (F := Ideal) (iblk2 V c 0 t) (ix2 0 v) = blockSum V c v ⟨t.val, ht⟩ :=
  (colSum_apply _ v).trans (Finset.sum_congr rfl fun r _ => blkW V c t r v ht)

theorem lt2 (n : ℕ) (h : n < 4) : n < cfg2.N := lt_of_lt_of_eq h (N_2.symm : 4 = cfg2.N)

/-- The sums after the first point, -/
theorem kept0 (c : Dev nD) (v : Fin 30522) : (outsAt2 V c 0 (lt2 0 (by decide))).2.2.1 (ix2 0 v) = blockSum V c v 0 := by
  have e := sum_A V c ⟨0, lt2 0 (by decide)⟩ rfl
  exact (congrFun e (ix2 0 v)).trans (colBlk V c ⟨0, lt2 0 (by decide)⟩ v (by decide))

/-- after the second, -/
theorem kept1 (c : Dev nD) (v : Fin 30522) :
    (outsAt2 V c 1 (lt2 1 (by decide))).2.2.1 (ix2 0 v) = blockSum V c v 0 + blockSum V c v 1 := by
  have e := sum_B V c ⟨1, lt2 1 (by decide)⟩ (by decide) (by decide)
  refine (congrFun e (ix2 0 v)).trans ((accSum_apply _ _ v).trans ?_)
  exact congrArg₂ (· + ·) (kept0 V c v) (colBlk V c ⟨1, lt2 1 (by decide)⟩ v (by decide))

/-- and after the third. -/
theorem kept2 (c : Dev nD) (v : Fin 30522) :
    (outsAt2 V c 2 (lt2 2 (by decide))).2.2.1 (ix2 0 v) = blockSum V c v 0 + blockSum V c v 1 + blockSum V c v 2 := by
  have e := sum_B V c ⟨2, lt2 2 (by decide)⟩ (by decide) (by decide)
  refine (congrFun e (ix2 0 v)).trans ((accSum_apply _ _ v).trans ?_)
  exact congrArg₂ (· + ·) (kept1 V c v) (colBlk V c ⟨2, lt2 2 (by decide)⟩ v (by decide))

/-- The last point's sums are those over all the documents. -/
theorem kept3 (c : Dev nD) (v : Fin 30522) :
    k2_pay1 (F := Ideal) (k2_pay9 (iblk2 V c 0 ⟨3, lt2 3 (by decide)⟩)) (outsAt2 V c 2 (lt2 2 (by decide))).2.2.1 (ix2 0 v)
      = ∑ b, wAt V c b v := by
  refine (accSum_apply _ _ v).trans ?_
  rw [← sum_blocks]
  exact congrArg₂ (· + ·) (kept2 V c v) (colBlk V c ⟨3, lt2 3 (by decide)⟩ v (by decide))

/-- The third result array holds the means. -/
theorem arr2_3 (c : Dev nD) : (dat2 V c).arrAt 3 cfg2.N = (fun j => meanAt V c (j 1) : Vec Ideal S1x30522 .f32) := by
  refine (dat2 V c).arrAt_eq_of_covers 3 _ (by decide +kernel) fun t hf y => ?_
  have h3 : t.val = 3 := (by decide +kernel : ∀ t : Fin cfg2.N, win2_3.flush t = true → t.val = 3) t hf
  have et : t = ⟨3, lt2 3 (by decide)⟩ := Fin.ext h3
  blk_simp
  rw [after2_3]
  obtain ⟨v, rfl⟩ : ∃ v : Fin 30522, y = ix2 (0 : Fin 1) v := ⟨y 1, (eq_ix2 y).trans (by rw [Fin.fin_one_eq_zero (y 0)])⟩
  have e := (idx2 t).2.2.2.1
  have hi : ((View.whole main_v12_2).slice (win2_3.rect t)).emb (ix2 (0 : Fin 1) v) = (ix2 (0 : Fin 1) v : S1x30522.Idx) := by
    blk_ext [e]
  rw [hi]
  subst et
  refine (congrFun (sum_C V c ⟨3, lt2 3 (by decide)⟩ (by decide) (by decide)) (ix2 0 v)).trans ((mean_apply _ v).trans ?_)
  exact congrArg (· * ((1 / 128 : ℝ) : EReal)) (kept3 V c v)

/-- The fourth result array holds the sum of the squared means, in every lane. -/
theorem arr2_4 (c : Dev nD) : (dat2 V c).arrAt 4 cfg2.N = (fun _ => ∑ v, meanAt V c v * meanAt V c v : Vec Ideal S1x128 .f32) := by
  refine (dat2 V c).arrAt_eq_of_covers 4 _ (by decide +kernel) fun t hf y => ?_
  have h3 : t.val = 3 := (by decide +kernel : ∀ t : Fin cfg2.N, win2_4.flush t = true → t.val = 3) t hf
  have et : t = ⟨3, lt2 3 (by decide)⟩ := Fin.ext h3
  blk_simp
  rw [after2_4]
  subst et
  obtain ⟨l, rfl⟩ : ∃ l : Fin 128, y = ix2 (0 : Fin 1) l := ⟨y 1, (eq_ix2 y).trans (by rw [Fin.fin_one_eq_zero (y 0)])⟩
  refine (congrFun (flops_C V c ⟨3, lt2 3 (by decide)⟩ (by decide) (by decide)) (ix2 0 l)).trans ((flops_apply _ l).trans ?_)
  refine Finset.sum_congr rfl fun v _ => ?_
  have hm := (mean_apply (k2_pay1 (F := Ideal) (k2_pay9 (iblk2 V c 0 ⟨3, lt2 3 (by decide)⟩)) (outsAt2 V c 2 (lt2 2 (by decide))).2.2.1) v).trans
    (congrArg (· * ((1 / 128 : ℝ) : EReal)) (kept3 V c v))
  exact congrArg₂ (· * ·) hm hm

end Cert.KernelIdeal.Whole

end
-- ==== Proof.KI.Result.lean ====
/- The whole program's eight results over the extended reals: the specification, of the argument arrays in memory. -/
module

public import proofs.«01_k».proof.Proof.Results
public import proofs.«01_k».proof.Proof.KI.HostValue
public import proofs.«01_k».proof.Proof.KI.TransformArray
public import proofs.«01_k».proof.Proof.KI.DecodeArray
public import proofs.«01_k».proof.Proof.KI.FinalizeArray

@[expose] public section

set_option maxRecDepth 16384

noncomputable section

namespace Cert.KernelIdeal.Whole

open Cert.KernelIdeal.Gen Cert.Splade
open Idealize.ShloMosaic Idealize.ShloMosaic.TcCoe

variable (m : (ℓ : Loc nD τ sig) → Buf (Elt Ideal) ℓ) (ρ : Dev nD → PrngReg)

/-- The arguments, of the memory at launch. -/
def args (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-! ## The transform -/

/-- The transformed tokens. -/
theorem rowY_eq (c : Dev nD) (b : Fin 128) (r : Fin 256) : rowY (V1 m ρ) c b r = (args m c).y b r := by
  have h0 : ∀ k, (V1 m ρ c main_v0 : Vec Ideal S32768x768 .fp8e4m3) (ix2 ⟨b.val * 256 + r.val, by omega⟩ k) = (args m c).x b r k :=
    fun k => host0_x (W0 m ρ c) b r k
  have h1 : (V1 m ρ c main_v1 : Vec Ideal S128x1x256 .f32) (ix3 b 0 r) = (args m c).xs b r := host0_xs (W0 m ρ c) b r
  have h2 : ∀ d, (V1 m ρ c main_v2 : Vec Ideal S1x768 .f32) (ix2 0 d) = (args m c).ws d := fun d => host0_ws (W0 m ρ c) d
  have h3 : ∀ d, (V1 m ρ c main_v3 : Vec Ideal S1x768 .f32) (ix2 0 d) = (args m c).bt d := fun d => host0_bt (W0 m ρ c) d
  have h4 : ∀ d, (V1 m ρ c main_v4 : Vec Ideal S1x768 .f32) (ix2 0 d) = (args m c).ga d := fun d => host0_ga (W0 m ρ c) d
  have h5 : ∀ d, (V1 m ρ c main_v5 : Vec Ideal S1x768 .f32) (ix2 0 d) = (args m c).be d := fun d => host0_be (W0 m ρ c) d
  have h6 : ∀ k d, (V1 m ρ c main_arg3 : Vec Ideal S768x768 .fp8e4m3) (ix2 k d) = (args m c).w k d :=
    fun k d => congrFun (W1_args m ρ c main_arg3 (by decide)) (ix2 k d)
  unfold rowY Args.y Args.c
  simp only [h0, h1, h2, h3, h4, h5, h6]

/-- The codes, when the decode starts. -/
theorem z3 (c : Dev nD) (b : Fin 128) (r : Fin 256) (k : Fin 768) :
    (V3 m ρ c main_v6_0 : Vec Ideal S32768x768 .fp8e4m3) (ix2 ⟨b.val * 256 + r.val, by omega⟩ k) = (args m c).z b r k := by
  have e : W3 m ρ c (Proc.devRef .tc main_v6_0) = codeArr (V1 m ρ) c :=
    (W3_of m ρ c main_v6_0 (by decide)).trans ((W2_arr m ρ c 7).trans (arr0_7 (V1 m ρ) c))
  refine (congrFun e _).trans ((codeArr_at (V1 m ρ) c b r k).trans ?_)
  rw [rowY_eq]
  rfl

/-- Their scales. -/
theorem zs3 (c : Dev nD) (b : Fin 128) (r : Fin 256) :
    (V3 m ρ c main_v6_1 : Vec Ideal S128x1x256 .f32) (ix3 b 0 r) = (args m c).zs b r := by
  have e : W3 m ρ c (Proc.devRef .tc main_v6_1) = scaleArr (V1 m ρ) c :=
    (W3_of m ρ c main_v6_1 (by decide)).trans ((W2_arr m ρ c 8).trans (arr0_8 (V1 m ρ) c))
  refine (congrFun e _).trans ?_
  show tokScale (rowY (V1 m ρ) c b r) = _
  rw [rowY_eq]
  rfl

/-! ## The decode -/

/-- The greatest logits. -/
theorem maxAt_eq (c : Dev nD) (b : Fin 128) (v : Fin 30522) : maxAt (V3 m ρ) c b v = (args m c).m b v := by
  have h0 : (V3 m ρ c main_arg2 : Vec Ideal S128 .i32) (ix1 b) = (args m c).lens b :=
    congrFun (W3_args m ρ c main_arg2 (by decide)) (ix1 b)
  have a8 := W2_args m ρ c main_arg8 (by decide)
  have a9 := W2_args m ρ c main_arg9 (by decide)
  have a10 := W2_args m ρ c main_arg10 (by decide)
  have h1 : ∀ k, (V3 m ρ c main_v8 : Vec Ideal S30720x768 .fp8e4m3) (ix2 ⟨v.val, by omega⟩ k) = (args m c).emb v k :=
    fun k => (host1_emb (W2 m ρ c) v k).trans (congrFun a8 (ix2 v k))
  have h2 : (V3 m ρ c main_v9 : Vec Ideal S1x30522 .f32) (ix2 0 v) = (args m c).es v :=
    (host1_es (W2 m ρ c) v).trans (congrFun a9 (ix1 v))
  have h3 : (V3 m ρ c main_v10 : Vec Ideal S1x30522 .f32) (ix2 0 v) = (args m c).bv v :=
    (host1_bv (W2 m ρ c) v).trans (congrFun a10 (ix1 v))
  unfold maxAt Args.m
  have h4 : ∀ r k, (V3 m ρ c main_v6_0 : Vec Ideal S32768x768 .fp8e4m3) (ix2 ⟨b.val * 256 + r.val, by omega⟩ k) = (args m c).z b r k :=
    fun r k => z3 m ρ c b r k
  have h5 : ∀ r, (V3 m ρ c main_v6_1 : Vec Ideal S128x1x256 .f32) (ix3 b 0 r) = (args m c).zs b r := fun r => zs3 m ρ c b r
  simp only [h0, h1, h2, h3, h4, h5]

/-! ## The results -/

/-- The weights. -/
theorem wAt_eq (c : Dev nD) (b : Fin 128) (v : Fin 30522) : wAt (V4 m ρ) c b v = (args m c).rep b v := by
  have e : W4 m ρ c (Proc.devRef .tc main_v11) = maxArr (V3 m ρ) c := (W4_arr m ρ c 6).trans (arr1_6 (V3 m ρ) c)
  unfold wAt Args.rep
  refine congrArg weight ((congrFun e (ix2 b v)).trans ?_)
  exact maxAt_eq m ρ c b v

theorem wRow_eq (c : Dev nD) (b : Fin 128) : wAt (V4 m ρ) c b = (args m c).rep b := funext fun v => wAt_eq m ρ c b v

theorem meanAt_eq (c : Dev nD) (v : Fin 30522) : meanAt (V4 m ρ) c v = (args m c).mean v := by
  unfold meanAt Args.mean
  simp only [wAt_eq]

theorem res0 (c : Dev nD) : W6 m ρ c (Proc.devRef .tc main_v12_0) = (args m c).out0 := by
  refine (W6_of m ρ c main_v12_0 (by decide)).trans ((W5_arr m ρ c 1).trans ((arr2_1 (V4 m ρ) c).trans ?_))
  funext j
  exact wAt_eq m ρ c (j 0) (j 1)

theorem res1 (c : Dev nD) : W6 m ρ c (Proc.devRef .tc main_v14) = (args m c).out1 := by
  funext j
  obtain ⟨b, rfl⟩ : ∃ b : Fin 128, j = ix1 b := ⟨j 0, eq_ix1 j⟩
  refine (host3_l1 (W5 m ρ c) b).trans ((congrFun ((W5_arr m ρ c 2).trans (arr2_2 (V4 m ρ) c)) (ix2 b 0)).trans ?_)
  show (∑ v, wAt (V4 m ρ) c b v) = (args m c).l1 b
  unfold Args.l1
  simp only [wAt_eq]

theorem res2 (c : Dev nD) : W6 m ρ c (Proc.devRef .tc main_v15) = (args m c).out2 := by
  funext j
  obtain ⟨v, rfl⟩ : ∃ v : Fin 30522, j = ix1 v := ⟨j 0, eq_ix1 j⟩
  refine (host3_mean (W5 m ρ c) v).trans ((congrFun ((W5_arr m ρ c 3).trans (arr2_3 (V4 m ρ) c)) (ix2 0 v)).trans ?_)
  exact meanAt_eq m ρ c v

theorem res3 (c : Dev nD) : W6 m ρ c (Proc.devRef .tc main_v17) = (args m c).out3 := by
  funext j
  refine (host3_flops (W5 m ρ c) j).trans ((congrFun ((W5_arr m ρ c 4).trans (arr2_4 (V4 m ρ) c)) (ix2 0 0)).trans ?_)
  show (∑ v, meanAt (V4 m ρ) c v * meanAt (V4 m ρ) c v) = (args m c).flops
  unfold Args.flops
  simp only [meanAt_eq]

/-- A buffer of the transform's that the two later calls do not write. -/
theorem kept_v6_0 (c : Dev nD) : W5 m ρ c (Proc.devRef .tc main_v6_0) = W3 m ρ c (Proc.devRef .tc main_v6_0) :=
  (W5_of m ρ c main_v6_0 (by decide +kernel)).trans (W4_of m ρ c main_v6_0 (by decide +kernel))

theorem kept_v6_1 (c : Dev nD) : W5 m ρ c (Proc.devRef .tc main_v6_1) = W3 m ρ c (Proc.devRef .tc main_v6_1) :=
  (W5_of m ρ c main_v6_1 (by decide +kernel)).trans (W4_of m ρ c main_v6_1 (by decide +kernel))

theorem res4 (c : Dev nD) : W6 m ρ c (Proc.devRef .tc main_v18) = (args m c).out4 := by
  funext j
  obtain ⟨b, r, k, rfl⟩ : ∃ (b : Fin 128) (r : Fin 256) (k : Fin 768), j = ix3 b r k := ⟨j 0, j 1, j 2, eq_ix3 j⟩
  refine (host3_z (W5 m ρ c) b r k).trans ((congrFun (kept_v6_0 m ρ c) _).trans ?_)
  exact z3 m ρ c b r k

theorem res5 (c : Dev nD) : W6 m ρ c (Proc.devRef .tc main_v19) = (args m c).out5 := by
  funext j
  obtain ⟨b, r, rfl⟩ : ∃ (b : Fin 128) (r : Fin 256), j = ix2 b r := ⟨j 0, j 1, eq_ix2 j⟩
  refine (host3_zs (W5 m ρ c) b r).trans ((congrFun (kept_v6_1 m ρ c) _).trans ?_)
  exact zs3 m ρ c b r

theorem res6 (c : Dev nD) : W6 m ρ c (Proc.devRef .tc main_v12_4) = (args m c).out6 := by
  refine (W6_of m ρ c main_v12_4 (by decide)).trans ((W5_arr m ρ c 5).trans ((arr2_5 (V4 m ρ) c).trans ?_))
  funext j
  exact congrArg (fun w => impact w (j 1)) (wRow_eq m ρ c (j 0))

theorem res7 (c : Dev nD) : W6 m ρ c (Proc.devRef .tc main_v21) = (args m c).out7 := by
  funext j
  obtain ⟨b, rfl⟩ : ∃ b : Fin 128, j = ix1 b := ⟨j 0, eq_ix1 j⟩
  refine (host3_scale (W5 m ρ c) b).trans ((congrFun ((W5_arr m ρ c 6).trans (arr2_6 (V4 m ρ) c)) (ix2 b 0)).trans ?_)
  show docScale (wAt (V4 m ρ) c b) = (args m c).scale b
  unfold Args.scale
  rw [wRow_eq]

end Cert.KernelIdeal.Whole

end
-- ==== Proof.RI.Ops.lean ====
/- The quantisers and the greatest values of the reference, operation by operation. -/
module

public import proofs.«01_k».proof.Proof.Gen.ReferenceIdeal.Skeleton
public import proofs.«01_k».proof.Proof.Spec

@[expose] public section

set_option maxRecDepth 16384

noncomputable section

namespace Cert.ReferenceIdeal.Whole

open Cert.ReferenceIdeal.Gen Cert.Splade
open Idealize.ShloMosaic

/-- The greatest value along the last axis of a three-dimensional array. -/
theorem max_last (w : FVec Ideal S128x256x768 .f32) (b : Fin 128) (r : Fin 256) (h : S128x256x768.Reduces [2] S128x256) (p q) :
    multiReduction .maximumf [2] S128x256 w 0xFF800000#32 h p q (ix2 b r) = peak fun d => w (ix3 b r d) := by
  pointwise
  simp only [peak, negInf]

/-- The greatest value along the middle axis of a three-dimensional array. -/
theorem max_middle (w : FVec Ideal S128x256x30522 .f32) (b : Fin 128) (v : Fin 30522) (h : S128x256x30522.Reduces [1] S128x30522)
    (p q) : multiReduction .maximumf [1] S128x30522 w 0xFF800000#32 h p q (ix2 b v) = peak fun r => w (ix3 b r v) := by
  pointwise
  simp only [peak, negInf]

/-- The greatest value along a row. -/
theorem max_row (w : FVec Ideal S128x30522 .f32) (b : Fin 128) (h : S128x30522.Reduces [1] S128) (p q) :
    multiReduction .maximumf [1] S128 w 0xFF800000#32 h p q (ix1 b) = peak fun v => w (ix2 b v) := by
  pointwise
  simp only [peak, negInf]

/-- The quantisers' choice of a scale, at one index. -/
theorem choice_apply {s : Shape} (M : FVec Ideal s .f32) (z m o : Ideal .f32) (i : s.Idx) :
    select (cmpf .ogt M (broadcast s z)) (divf M (broadcast s m)) (broadcast s o) i
      = Scalar.select (FloatOps.cmpf (F := Ideal) (φ := .f32) .ogt (M i) z) (Ideal.div (M i) m) o := rfl

/-- The same, where the value at that index is known. -/
theorem choice_of {s : Shape} (M : FVec Ideal s .f32) (z m o : Ideal .f32) (i : s.Idx) (a : EReal) (ha : M i = a) :
    select (cmpf .ogt M (broadcast s z)) (divf M (broadcast s m)) (broadcast s o) i
      = Scalar.select (FloatOps.cmpf (F := Ideal) (φ := .f32) .ogt a z) (Ideal.div a m) o := by
  rw [choice_apply, ha]

/-- A choice of a scale for fp8 codes. -/
theorem choice_fp8 (a : EReal) :
    Scalar.select (FloatOps.cmpf (F := Ideal) (φ := .f32) .ogt a (Scalar.ofBits .f32 0x00000000#32))
      (Ideal.div a (Scalar.ofBits (F := Ideal) .f32 0x43E00000#32)) (Scalar.ofBits (F := Ideal) .f32 0x3F800000#32) = scaleOf fp8Max a := by
  pointwise
  simp only [scaleOf, fp8Max]

/-- A choice of a scale for u8 codes. -/
theorem choice_u8 (a : EReal) :
    Scalar.select (FloatOps.cmpf (F := Ideal) (φ := .f32) .ogt a (Scalar.ofBits .f32 0x00000000#32))
      (Ideal.div a (Scalar.ofBits (F := Ideal) .f32 0x437F0000#32)) (Scalar.ofBits (F := Ideal) .f32 0x3F800000#32) = scaleOf u8Max a := by
  pointwise
  simp only [scaleOf, u8Max]

/-- The fp8 codes of quotients, at one index. -/
theorem fp8_apply {s : Shape} (u w : FVec Ideal s .f32) (lo hi : Ideal .f32) (h : FTy.bits .fp8e4m3 < FTy.bits .f32) (i : s.Idx) :
    truncf .fp8e4m3 (minimumf (broadcast s hi) (maximumf (broadcast s lo) (divf u w))) h i = min hi (max lo (Ideal.div (u i) (w i))) := rfl

/-- The largest u8 code is the number `255`. -/
theorem u8Max_eq : u8Max = ((255 : ℝ) : EReal) := by
  unfold u8Max
  simp [Ideal.ofBits, Ideal.ieee, -EReal.coe_mul]; norm_num

/-- Between `0` and `255`, a conversion to an unsigned byte is the low byte of a conversion to a signed word. -/
theorem u8_of_i32 (x : EReal) : FloatOps.fptoui (F := Ideal) (φ := .f32) 8 (min u8Max (max 0 x))
    = BitVec.setWidth 8 (FloatOps.fptosi (F := Ideal) (φ := .f32) 32 (min u8Max (max 0 x))) := by
  show Ideal.fptoui 8 _ = BitVec.setWidth 8 (Ideal.fptosi 32 _)
  have lo : 0 ≤ min u8Max (max 0 x) := le_min (by rw [u8Max_eq]; exact_mod_cast (by norm_num : (0 : ℝ) ≤ 255)) (le_max_left _ _)
  have hi : min u8Max (max 0 x) ≤ ((255 : ℝ) : EReal) := (min_le_left _ _).trans (le_of_eq u8Max_eq)
  generalize min u8Max (max 0 x) = y at lo hi
  induction y using EReal.rec with
  | bot => exact absurd lo (not_le.2 EReal.bot_lt_zero)
  | top => exact absurd hi (not_le.2 (EReal.coe_lt_top _))
  | coe r =>
    have h0 : 0 ≤ r := by exact_mod_cast lo
    have h1 : r ≤ 255 := by exact_mod_cast hi
    have f0 : 0 ≤ ⌊r⌋ := Int.floor_nonneg.2 h0
    have f1 : ⌊r⌋ ≤ 255 := by exact_mod_cast (Int.floor_le r).trans h1
    rw [Ideal.fptoui, Ideal.fptosi, Ideal.toIntClamped_coe, Ideal.toIntClamped_coe, if_pos h0]
    have e0 : max 0 (min (((2 ^ 8 : Nat) : ℤ) - 1) ⌊r⌋) = ⌊r⌋ := by omega
    have e1 : max (-((2 ^ (32 - 1) : Nat) : ℤ)) (min (((2 ^ (32 - 1) : Nat) : ℤ) - 1) ⌊r⌋) = ⌊r⌋ := by omega
    rw [e0, e1]
    apply BitVec.eq_of_toNat_eq
    rw [BitVec.toNat_setWidth, BitVec.toNat_ofInt, BitVec.toNat_ofInt]
    omega

/-- The u8 codes of quotients, at one index. -/
theorem u8_apply {s : Shape} (u w : FVec Ideal s .f32) (lo hi : Ideal .f32) (i : s.Idx) :
    fptoui 8 (minimumf (broadcast s hi) (maximumf (broadcast s lo) (roundeven (divf u w)))) i
      = FloatOps.fptoui (F := Ideal) (φ := .f32) 8
          (min hi (max lo (Ideal.liftRound Ideal.roundHalfEven (Ideal.div (u i) (w i))))) := rfl

/-- A weight, at one index where the logit is known. -/
theorem log_of {s : Shape} (M : FVec Ideal s .f32) (i : s.Idx) (a : EReal) (ha : M i = a) :
    log1p (maximumf M (broadcast s (Scalar.ofBits .f32 0x00000000#32))) i = weight a := by
  pointwise
  rw [ha]
  rfl

/-- The mask, at one index. -/
theorem mask_apply {s : Shape} (a n : IVec s 32) (l : FVec Ideal s .f32) (z : Ideal .f32) (i : s.Idx) :
    select (cmpi .slt a n) l (broadcast s z) i = Scalar.select (IntOp.cmpi .slt (a i) (n i)) (l i) z := rfl

end Cert.ReferenceIdeal.Whole

end
-- ==== Proof.RI.TokenValue.lean ====
/- What the reference computes of a token, element by element. -/
module

public import proofs.«01_k».proof.Proof.Gen.ReferenceIdeal.Skeleton
public import proofs.«01_k».proof.Proof.RI.Ops

@[expose] public section

set_option maxRecDepth 16384

noncomputable section

namespace Cert.ReferenceIdeal.Whole

open Cert.ReferenceIdeal.Gen Cert.Splade
open Idealize.ShloMosaic

/-- The centred activations of token `r` of document `b`, at column `d`. -/
theorem pay4_apply (v0 : Vec Ideal S128x256x768 .fp8e4m3) (v2 : Vec Ideal S768x768 .fp8e4m3) (v5 : Vec Ideal S128x256 .f32)
    (v9 v14 : Vec Ideal S1x768 .f32) (b : Fin 128) (r : Fin 256) (d : Fin 768) :
    k0_pay4 (F := Ideal) v0 v2 v5 v9 v14 (ix3 b r d)
      = centre (fun d => gelu (lin (fun k => v0 (ix3 b r k)) (fun k d => v2 (ix2 k d)) (v5 (ix2 b r))
          (fun d => v9 (ix2 0 d)) (fun d => v14 (ix2 0 d)) d)) d := by
  pointwise [k0_pay4]
  rw [div_768]
  simp only [centre, gelu, lin, half, sqrtHalf]

/-- A token's variance plus the epsilon. -/
theorem pay5_apply (v0 : Vec Ideal S128x256x768 .fp8e4m3) (v2 : Vec Ideal S768x768 .fp8e4m3) (v5 : Vec Ideal S128x256 .f32)
    (v9 v14 : Vec Ideal S1x768 .f32) (b : Fin 128) (r : Fin 256) :
    k0_pay5 (F := Ideal) v0 v2 v5 v9 v14 (ix3 b r 0)
      = variance (fun d => k0_pay4 (F := Ideal) v0 v2 v5 v9 v14 (ix3 b r d)) + eps := by
  pointwise [k0_pay5]
  rw [div_768]
  simp only [variance, eps]

/-- The transformed token. -/
theorem pay6_apply (v32 : FVec Ideal S128x256x768 .f32) (v39 : FVec Ideal S128x256x1 .f32) (v43 v48 : Vec Ideal S1x768 .f32)
    (b : Fin 128) (r : Fin 256) (d : Fin 768) (hv : v39 (ix3 b r 0) = variance (fun d => v32 (ix3 b r d)) + eps) :
    k0_pay6 (F := Ideal) v32 v39 v43 v48 (ix3 b r d)
      = normed (fun d => v32 (ix3 b r d)) (fun d => v43 (ix2 0 d)) (fun d => v48 (ix2 0 d)) d := by
  pointwise [k0_pay6]
  rw [hv]
  simp only [normed]

/-- The scale of a token's codes. -/
theorem pay7_apply (v32 : FVec Ideal S128x256x768 .f32) (v39 : FVec Ideal S128x256x1 .f32) (v43 v48 : Vec Ideal S1x768 .f32)
    (b : Fin 128) (r : Fin 256) :
    k0_pay7 (F := Ideal) v32 v39 v43 v48 (ix2 b r)
      = tokScale fun d => k0_pay6 (F := Ideal) v32 v39 v43 v48 (ix3 b r d) := by
  unfold k0_pay7
  refine (choice_of _ _ _ _ _ _ ?_).trans (choice_fp8 _)
  exact max_last _ _ _ _ _ _

/-- A token's codes. -/
theorem pay8_apply (v32 : FVec Ideal S128x256x768 .f32) (v39 : FVec Ideal S128x256x1 .f32) (v43 v48 : Vec Ideal S1x768 .f32)
    (b : Fin 128) (r : Fin 256) (d : Fin 768) :
    k0_pay8 (F := Ideal) v32 v39 v43 v48 (ix3 b r d)
      = tokCode (fun d => k0_pay6 (F := Ideal) v32 v39 v43 v48 (ix3 b r d)) d := by
  have hw : ∀ w : FVec Ideal S128x256 .f32, broadcastTo S128x256x768
      (shapeCast S128x256x1 w shapeCasts_S128x256_S128x256x1) broadcasts_S128x256x1_S128x256x768 (ix3 b r d) = w (ix2 b r) := by
    intro w
    pointwise
  unfold k0_pay8
  refine (fp8_apply _ _ _ _ _ _).trans ?_
  rw [hw, pay7_apply]
  rfl

end Cert.ReferenceIdeal.Whole

end
-- ==== Proof.RI.LogitValue.lean ====
/- What the reference computes of a document and a vocabulary entry, element by element. -/
module

public import proofs.«01_k».proof.Proof.Gen.ReferenceIdeal.Skeleton
public import proofs.«01_k».proof.Proof.RI.Ops

@[expose] public section

set_option maxRecDepth 16384

noncomputable section

namespace Cert.ReferenceIdeal.Whole

open Cert.ReferenceIdeal.Gen Cert.Splade
open Idealize.ShloMosaic

/-- The product of a token's codes with an entry's, times the token's scale. -/
theorem pay9_apply (v32 : FVec Ideal S128x256x768 .f32) (v39 : FVec Ideal S128x256x1 .f32) (v43 v48 : Vec Ideal S1x768 .f32)
    (v72 : Vec Ideal S30522x768 .fp8e4m3) (b : Fin 128) (r : Fin 256) (v : Fin 30522) :
    k0_pay9 (F := Ideal) v32 v39 v43 v48 v72 (ix3 b r v)
      = (∑ k, k0_pay8 (F := Ideal) v32 v39 v43 v48 (ix3 b r k) * v72 (ix2 v k)) * k0_pay7 (F := Ideal) v32 v39 v43 v48 (ix2 b r) := by
  simp only [k0_pay9]
  rw [mulf_apply]
  pointwise

/-- The masked logit of one token and entry. -/
theorem masked_apply (v77 : FVec Ideal S128x256x30522 .f32) (v78 v83 : Vec Ideal S1x30522 .f32) (v89 : Vec Ideal S128x1x1 .i32)
    (b : Fin 128) (r : Fin 256) (v : Fin 30522) (z : Ideal .f32) :
    Scalar.select (IntOp.cmpi .slt (iota .tc S128x256x30522 32 [1] iota_S128x256x30522_d1_w32 (ix3 b r v))
        (broadcastTo S128x256x30522 (shapeCast S128x1x1 v89 shapeCasts_S128x1x1_S128x1x1)
          broadcasts_S128x1x1_S128x256x30522 (ix3 b r v)))
      (addf (F := Ideal) (φ := .f32) (mulf v77 (broadcastTo S128x256x30522
          (shapeCast S1x1x30522 (shapeCast S1x30522 v78 shapeCasts_S1x30522_S1x30522) shapeCasts_S1x30522_S1x1x30522)
          broadcasts_S1x1x30522_S128x256x30522))
        (broadcastTo S128x256x30522
          (shapeCast S1x1x30522 (shapeCast S1x30522 v83 shapeCasts_S1x30522_S1x30522) shapeCasts_S1x30522_S1x1x30522)
          broadcasts_S1x1x30522_S128x256x30522) (ix3 b r v)) z
      = Scalar.select (IntOp.cmpi .slt (BitVec.ofNat 32 r.val) (v89 (ix3 b 0 0))) (v77 (ix3 b r v) * v78 (ix2 0 v) + v83 (ix2 0 v)) z := by
  pointwise

/-- The weight of an entry in a document. -/
theorem pay10_apply (v77 : FVec Ideal S128x256x30522 .f32) (v78 v83 : Vec Ideal S1x30522 .f32) (v89 : Vec Ideal S128x1x1 .i32)
    (b : Fin 128) (v : Fin 30522) :
    k0_pay10 (F := Ideal) v77 v78 v83 v89 (ix2 b v)
      = weight (peak fun r => masked (v89 (ix3 b 0 0)) r (v77 (ix3 b r v) * v78 (ix2 0 v) + v83 (ix2 0 v))) := by
  unfold k0_pay10
  refine log_of _ _ _ ((max_middle _ _ _ _ _ _).trans (congrArg peak (funext fun r => ?_)))
  exact (mask_apply _ _ _ _ _).trans (masked_apply v77 v78 v83 v89 b r v _)

end Cert.ReferenceIdeal.Whole

end
-- ==== Proof.RI.WeightValue.lean ====
/- What the reference makes of the weights: the u8 codes with their scales, the sums and the means. -/
module

public import proofs.«01_k».proof.Proof.Gen.ReferenceIdeal.Skeleton
public import proofs.«01_k».proof.Proof.RI.Ops

@[expose] public section

set_option maxRecDepth 16384

noncomputable section

namespace Cert.ReferenceIdeal.Whole

open Cert.ReferenceIdeal.Gen Cert.Splade
open Idealize.ShloMosaic

/-- The scale of a document's u8 codes. -/
theorem pay11_apply (v77 : FVec Ideal S128x256x30522 .f32) (v78 v83 : Vec Ideal S1x30522 .f32) (v89 : Vec Ideal S128x1x1 .i32)
    (b : Fin 128) :
    k0_pay11 (F := Ideal) v77 v78 v83 v89 (ix2 b 0) = docScale fun v => k0_pay10 (F := Ideal) v77 v78 v83 v89 (ix2 b v) := by
  have hs : ∀ w : FVec Ideal S128 .f32, shapeCast S128x1 w shapeCasts_S128_S128x1 (ix2 b 0) = w (ix1 b) := by
    intro w
    pointwise
  unfold k0_pay11
  refine (choice_of _ _ _ _ _ _ ?_).trans (choice_u8 _)
  exact (hs _).trans (max_row _ _ _ _ _)

/-- A document's u8 codes. -/
theorem pay12_apply (v77 : FVec Ideal S128x256x30522 .f32) (v78 v83 : Vec Ideal S1x30522 .f32) (v89 : Vec Ideal S128x1x1 .i32)
    (b : Fin 128) (v : Fin 30522) :
    k0_pay12 (F := Ideal) v77 v78 v83 v89 (ix2 b v) = impact (fun v => k0_pay10 (F := Ideal) v77 v78 v83 v89 (ix2 b v)) v := by
  have hw : ∀ w : FVec Ideal S128x1 .f32, broadcastTo S128x30522 w broadcasts_S128x1_S128x30522 (ix2 b v) = w (ix2 b 0) := by
    intro w
    pointwise
  have h0 : (Scalar.ofBits (F := Ideal) .f32 0x00000000#32 : EReal) = 0 := by pointwise
  unfold k0_pay12
  refine (u8_apply _ _ _ _ _).trans ?_
  rw [hw, pay11_apply, h0]
  exact u8_of_i32 _

/-- Each document's sum of weights. -/
theorem pay1_apply (v98 : FVec Ideal S128x30522 .f32) (b : Fin 128) :
    k0_pay1 (F := Ideal) v98 (ix2 b 0) = ∑ v, v98 (ix2 b v) := by
  pointwise [k0_pay1]

/-- Each entry's mean weight. -/
theorem pay2_apply (v98 : FVec Ideal S128x30522 .f32) (v : Fin 30522) :
    k0_pay2 (F := Ideal) v98 (ix2 0 v) = (∑ b, v98 (ix2 b v)) * ((1 / 128 : ℝ) : EReal) := by
  pointwise [k0_pay2]
  rw [div_128]

/-- The sum of the squared means. -/
theorem pay3_apply (v98 : FVec Ideal S128x30522 .f32) :
    k0_pay3 (F := Ideal) v98 (ix2 0 0) = ∑ v, k0_pay2 (F := Ideal) v98 (ix2 0 v) * k0_pay2 (F := Ideal) v98 (ix2 0 v) := by
  pointwise [k0_pay3]

end Cert.ReferenceIdeal.Whole

end
-- ==== Proof.RI.Blocks.lean ====
/- What the reference's one body leaves in each of its output blocks, of the blocks it is given. -/
module

public import proofs.«01_k».proof.Proof.Results
public import proofs.«01_k».proof.Proof.RI.TokenValue
public import proofs.«01_k».proof.Proof.RI.LogitValue
public import proofs.«01_k».proof.Proof.RI.WeightValue
public import proofs.«01_k».proof.Proof.Gen.ReferenceIdeal.Frame
public import Idealize.ShloMosaic.Lib.Pipeline.ValueKit

@[expose] public section

set_option maxRecDepth 16384

noncomputable section

namespace Cert.ReferenceIdeal.Whole

open Cert.ReferenceIdeal.Gen Cert.Splade
open Idealize.ShloMosaic Idealize.ShloMosaic.TcCoe

/-- The arguments, of the blocks the body is given. -/
def blkArgs (x0 : Vec Ideal S128x256x768 .fp8e4m3) (x1 : Vec Ideal S128x256 .f32) (x2 : Vec Ideal S128x1x1 .i32) (x3 : Vec Ideal S768x768 .fp8e4m3) (x4 x5 x6 x7 : Vec Ideal S1x768 .f32) (x8 : Vec Ideal S30522x768 .fp8e4m3) (x9 x10 : Vec Ideal S1x30522 .f32) : Args where
  x b r k := x0 (ix3 b r k)
  xs b r := x1 (ix2 b r)
  lens b := x2 (ix3 b 0 0)
  w k d := x3 (ix2 k d)
  ws d := x4 (ix2 0 d)
  bt d := x5 (ix2 0 d)
  ga d := x6 (ix2 0 d)
  be d := x7 (ix2 0 d)
  emb v k := x8 (ix2 v k)
  es v := x9 (ix2 0 v)
  bv v := x10 (ix2 0 v)

variable (x0 : Vec Ideal S128x256x768 .fp8e4m3) (x1 : Vec Ideal S128x256 .f32) (x2 : Vec Ideal S128x1x1 .i32) (x3 : Vec Ideal S768x768 .fp8e4m3) (x4 x5 x6 x7 : Vec Ideal S1x768 .f32) (x8 : Vec Ideal S30522x768 .fp8e4m3) (x9 x10 : Vec Ideal S1x30522 .f32)

/-! ## Whole blocks -/

/-- The activations as the body binds them. -/
theorem pay13_eq : k0_pay13 (F := Ideal) x0 x1 x2 x3 x4 x5 x6 x7 x8 x9 x10 = k0_pay4 x0 x3 x1 x4 x5 := by
  unfold k0_pay13
  simp (disch := decide) only [View.ld_unit_lit']

/-- The variances as the body binds them. -/
theorem pay14_eq : k0_pay14 (F := Ideal) x0 x1 x2 x3 x4 x5 x6 x7 x8 x9 x10 = k0_pay5 x0 x3 x1 x4 x5 := by
  unfold k0_pay14
  simp (disch := decide) only [View.ld_unit_lit']

/-- The products as the body binds them. -/
theorem pay15_eq : k0_pay15 (F := Ideal) x0 x1 x2 x3 x4 x5 x6 x7 x8 x9 x10
    = k0_pay9 (k0_pay4 x0 x3 x1 x4 x5) (k0_pay5 x0 x3 x1 x4 x5) x6 x7 x8 := by
  unfold k0_pay15
  rw [pay13_eq, pay14_eq]
  simp (disch := decide) only [View.ld_unit_lit']

/-- The weights as the body binds them. -/
theorem pay16_eq : k0_pay16 (F := Ideal) x0 x1 x2 x3 x4 x5 x6 x7 x8 x9 x10
    = k0_pay10 (k0_pay9 (k0_pay4 x0 x3 x1 x4 x5) (k0_pay5 x0 x3 x1 x4 x5) x6 x7 x8) x9 x10 x2 := by
  unfold k0_pay16
  rw [pay15_eq]
  simp (disch := decide) only [View.ld_unit_lit']

/-! ## Their elements -/

theorem y_at (b : Fin 128) (r : Fin 256) (d : Fin 768) :
    k0_pay6 (F := Ideal) (k0_pay4 (F := Ideal) x0 x3 x1 x4 x5) (k0_pay5 (F := Ideal) x0 x3 x1 x4 x5) x6 x7 (ix3 b r d) = (blkArgs x0 x1 x2 x3 x4 x5 x6 x7 x8 x9 x10).y b r d := by
  rw [pay6_apply _ _ _ _ _ _ _ (pay5_apply x0 x3 x1 x4 x5 b r)]
  simp only [pay4_apply]
  rfl

theorem zs_at (b : Fin 128) (r : Fin 256) : k0_pay7 (F := Ideal) (k0_pay4 (F := Ideal) x0 x3 x1 x4 x5) (k0_pay5 (F := Ideal) x0 x3 x1 x4 x5) x6 x7 (ix2 b r) = (blkArgs x0 x1 x2 x3 x4 x5 x6 x7 x8 x9 x10).zs b r := by
  refine (pay7_apply _ _ _ _ b r).trans ?_
  exact congrArg tokScale (funext fun d => y_at x0 x1 x2 x3 x4 x5 x6 x7 x8 x9 x10 b r d)

theorem z_at (b : Fin 128) (r : Fin 256) (d : Fin 768) : k0_pay8 (F := Ideal) (k0_pay4 (F := Ideal) x0 x3 x1 x4 x5) (k0_pay5 (F := Ideal) x0 x3 x1 x4 x5) x6 x7 (ix3 b r d) = (blkArgs x0 x1 x2 x3 x4 x5 x6 x7 x8 x9 x10).z b r d := by
  refine (pay8_apply _ _ _ _ b r d).trans ?_
  exact congrArg (fun y => tokCode y d) (funext fun d => y_at x0 x1 x2 x3 x4 x5 x6 x7 x8 x9 x10 b r d)

theorem rep_at (b : Fin 128) (v : Fin 30522) : k0_pay10 (F := Ideal) (k0_pay9 (F := Ideal) (k0_pay4 (F := Ideal) x0 x3 x1 x4 x5) (k0_pay5 (F := Ideal) x0 x3 x1 x4 x5) x6 x7 x8) x9 x10 x2 (ix2 b v) = (blkArgs x0 x1 x2 x3 x4 x5 x6 x7 x8 x9 x10).rep b v := by
  refine (pay10_apply _ _ _ _ b v).trans ?_
  unfold Args.rep Args.m docMax
  refine congrArg (fun f => weight (peak f)) (funext fun r => ?_)
  refine congrArg (masked (x2 (ix3 b 0 0)) r) ?_
  rw [pay9_apply, zs_at x0 x1 x2 x3 x4 x5 x6 x7 x8 x9 x10 b r]
  simp only [z_at x0 x1 x2 x3 x4 x5 x6 x7 x8 x9 x10 b r]
  rfl

theorem rep_row (b : Fin 128) : (fun v => k0_pay10 (F := Ideal) (k0_pay9 (F := Ideal) (k0_pay4 (F := Ideal) x0 x3 x1 x4 x5) (k0_pay5 (F := Ideal) x0 x3 x1 x4 x5) x6 x7 x8) x9 x10 x2 (ix2 b v)) = (blkArgs x0 x1 x2 x3 x4 x5 x6 x7 x8 x9 x10).rep b :=
  funext fun v => rep_at x0 x1 x2 x3 x4 x5 x6 x7 x8 x9 x10 b v

theorem mean_at (v : Fin 30522) : k0_pay2 (F := Ideal) (k0_pay10 (k0_pay9 (F := Ideal) (k0_pay4 (F := Ideal) x0 x3 x1 x4 x5) (k0_pay5 (F := Ideal) x0 x3 x1 x4 x5) x6 x7 x8) x9 x10 x2) (ix2 0 v) = (blkArgs x0 x1 x2 x3 x4 x5 x6 x7 x8 x9 x10).mean v := by
  refine (pay2_apply _ v).trans ?_
  simp only [rep_at x0 x1 x2 x3 x4 x5 x6 x7 x8 x9 x10]
  rfl

/-! ## The output blocks -/

theorem out11_at (b : Fin 128) (v : Fin 30522) : out0_11 (F := Ideal) x0 x1 x2 x3 x4 x5 x6 x7 x8 x9 x10 (ix2 b v) = (blkArgs x0 x1 x2 x3 x4 x5 x6 x7 x8 x9 x10).rep b v := by
  unfold out0_11
  simp (disch := decide) only [View.canon_cons_unit_lit', View.ld_unit_lit', pay15_eq]
  exact rep_at x0 x1 x2 x3 x4 x5 x6 x7 x8 x9 x10 b v

theorem out12_at (b : Fin 128) : out0_12 (F := Ideal) x0 x1 x2 x3 x4 x5 x6 x7 x8 x9 x10 (ix2 b 0) = (blkArgs x0 x1 x2 x3 x4 x5 x6 x7 x8 x9 x10).l1 b := by
  unfold out0_12
  simp (disch := decide) only [View.canon_cons_unit_lit', pay16_eq]
  refine (pay1_apply _ b).trans ?_
  simp only [rep_at x0 x1 x2 x3 x4 x5 x6 x7 x8 x9 x10]
  rfl

theorem out13_at (v : Fin 30522) : out0_13 (F := Ideal) x0 x1 x2 x3 x4 x5 x6 x7 x8 x9 x10 (ix2 0 v) = (blkArgs x0 x1 x2 x3 x4 x5 x6 x7 x8 x9 x10).mean v := by
  unfold out0_13
  simp (disch := decide) only [View.canon_cons_unit_lit', pay16_eq]
  exact mean_at x0 x1 x2 x3 x4 x5 x6 x7 x8 x9 x10 v

theorem out14_at : out0_14 (F := Ideal) x0 x1 x2 x3 x4 x5 x6 x7 x8 x9 x10 (ix2 0 0) = (blkArgs x0 x1 x2 x3 x4 x5 x6 x7 x8 x9 x10).flops := by
  unfold out0_14
  simp (disch := decide) only [View.canon_cons_unit_lit', pay16_eq]
  refine (pay3_apply _).trans ?_
  simp only [mean_at x0 x1 x2 x3 x4 x5 x6 x7 x8 x9 x10]
  rfl

theorem out15_at (b : Fin 128) (r : Fin 256) (d : Fin 768) : out0_15 (F := Ideal) x0 x1 x2 x3 x4 x5 x6 x7 x8 x9 x10 (ix3 b r d) = (blkArgs x0 x1 x2 x3 x4 x5 x6 x7 x8 x9 x10).z b r d := by
  unfold out0_15
  simp (disch := decide) only [View.canon_cons_unit_lit', View.ld_unit_lit', pay13_eq, pay14_eq]
  exact z_at x0 x1 x2 x3 x4 x5 x6 x7 x8 x9 x10 b r d

theorem out16_at (b : Fin 128) (r : Fin 256) : out0_16 (F := Ideal) x0 x1 x2 x3 x4 x5 x6 x7 x8 x9 x10 (ix2 b r) = (blkArgs x0 x1 x2 x3 x4 x5 x6 x7 x8 x9 x10).zs b r := by
  unfold out0_16
  simp (disch := decide) only [View.canon_cons_unit_lit', View.ld_unit_lit', pay13_eq, pay14_eq]
  exact zs_at x0 x1 x2 x3 x4 x5 x6 x7 x8 x9 x10 b r

theorem out17_at (b : Fin 128) (v : Fin 30522) : out0_17 (F := Ideal) x0 x1 x2 x3 x4 x5 x6 x7 x8 x9 x10 (ix2 b v) = (blkArgs x0 x1 x2 x3 x4 x5 x6 x7 x8 x9 x10).codes b v := by
  unfold out0_17
  simp (disch := decide) only [View.canon_cons_unit_lit', View.ld_unit_lit', pay15_eq]
  refine (pay12_apply _ _ _ _ b v).trans ?_
  exact congrArg (fun w => impact w v) (rep_row x0 x1 x2 x3 x4 x5 x6 x7 x8 x9 x10 b)

theorem out18_at (b : Fin 128) : out0_18 (F := Ideal) x0 x1 x2 x3 x4 x5 x6 x7 x8 x9 x10 (ix2 b 0) = (blkArgs x0 x1 x2 x3 x4 x5 x6 x7 x8 x9 x10).scale b := by
  unfold out0_18
  simp (disch := decide) only [View.canon_cons_unit_lit', View.ld_unit_lit', pay15_eq]
  refine (pay11_apply _ _ _ _ b).trans ?_
  exact congrArg docScale (rep_row x0 x1 x2 x3 x4 x5 x6 x7 x8 x9 x10 b)

end Cert.ReferenceIdeal.Whole

end
-- ==== Proof.RI.Result.lean ====
/- The reference's eight results over the extended reals: the specification, of the argument arrays in memory. -/
module

public import proofs.«01_k».proof.Proof.RI.Blocks
public import Idealize.ShloMosaic.Lib.Claim

@[expose] public section

set_option maxRecDepth 16384

noncomputable section

namespace Cert.ReferenceIdeal.Whole

open Cert.ReferenceIdeal.Gen Cert.Splade
open Idealize.ShloMosaic Idealize.ShloMosaic.TcCoe

variable (m : (ℓ : Loc nD τ sig) → Buf (Elt Ideal) ℓ) (ρ : Dev nD → PrngReg)

/-- The arguments, of the memory at launch. -/
def args (c : Dev nD) : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-! ## The reshapes, read at an index -/

/-- A vector with two unit axes added. -/
theorem asUnits (x : Vec Ideal S128 .i32) (b : Fin 128) : shapeCast S128x1x1 x shapeCasts_S128_S128x1x1 (ix3 b 0 0) = x (ix1 b) := by
  pointwise

/-- A vector as a row. -/
theorem asRow (x : Vec Ideal S768 .f32) (d : Fin 768) : shapeCast S1x768 x shapeCasts_S768_S1x768 (ix2 0 d) = x (ix1 d) := by
  pointwise

/-- A vector over the vocabulary as a row. -/
theorem asVocabRow (x : Vec Ideal S30522 .f32) (v : Fin 30522) :
    shapeCast S1x30522 x shapeCasts_S30522_S1x30522 (ix2 0 v) = x (ix1 v) := by
  pointwise

/-- A row over the vocabulary as a vector. -/
theorem ofVocabRow (x : Vec Ideal S1x30522 .f32) (v : Fin 30522) :
    shapeCast S30522 x shapeCasts_S1x30522_S30522 (ix1 v) = x (ix2 0 v) := by
  pointwise

/-- A column as a vector. -/
theorem ofColumn (x : Vec Ideal S128x1 .f32) (b : Fin 128) : shapeCast S128 x shapeCasts_S128x1_S128 (ix1 b) = x (ix2 b 0) := by
  pointwise

/-- A single entry as a scalar. -/
theorem ofUnit (x : Vec Ideal S1x1 .f32) (i : S_.Idx) : shapeCast S_ x shapeCasts_S1x1_S_ i = x (ix2 0 0) := by
  pointwise

/-! ## The blocks -/

/-- The lengths, as the call finds them. -/
theorem V_lens (c : Dev nD) (b : Fin 128) :
    (V m c main_v0 : Vec Ideal S128x1x1 .i32) (ix3 b 0 0) = (m ((c : Thread nD τ).loc main_arg2) : Vec Ideal S128 .i32) (ix1 b) := by
  entry_read
  exact asUnits _ b

/-- The transform's scales, as the call finds them. -/
theorem V_ws (c : Dev nD) (d : Fin 768) :
    (V m c main_v1 : Vec Ideal S1x768 .f32) (ix2 0 d) = (m ((c : Thread nD τ).loc main_arg4) : Vec Ideal S768 .f32) (ix1 d) := by
  entry_read
  exact asRow _ d

/-- The transform's bias, as the call finds them. -/
theorem V_bt (c : Dev nD) (d : Fin 768) :
    (V m c main_v2 : Vec Ideal S1x768 .f32) (ix2 0 d) = (m ((c : Thread nD τ).loc main_arg5) : Vec Ideal S768 .f32) (ix1 d) := by
  entry_read
  exact asRow _ d

/-- The normalization's gain, as the call finds them. -/
theorem V_ga (c : Dev nD) (d : Fin 768) :
    (V m c main_v3 : Vec Ideal S1x768 .f32) (ix2 0 d) = (m ((c : Thread nD τ).loc main_arg6) : Vec Ideal S768 .f32) (ix1 d) := by
  entry_read
  exact asRow _ d

/-- The normalization's offset, as the call finds them. -/
theorem V_be (c : Dev nD) (d : Fin 768) :
    (V m c main_v4 : Vec Ideal S1x768 .f32) (ix2 0 d) = (m ((c : Thread nD τ).loc main_arg7) : Vec Ideal S768 .f32) (ix1 d) := by
  entry_read
  exact asRow _ d

/-- The vocabulary's scales, as the call finds them. -/
theorem V_es (c : Dev nD) (v : Fin 30522) :
    (V m c main_v5 : Vec Ideal S1x30522 .f32) (ix2 0 v) = (m ((c : Thread nD τ).loc main_arg9) : Vec Ideal S30522 .f32) (ix1 v) := by
  entry_read
  exact asVocabRow _ v

/-- The vocabulary's bias, as the call finds them. -/
theorem V_bv (c : Dev nD) (v : Fin 30522) :
    (V m c main_v6 : Vec Ideal S1x30522 .f32) (ix2 0 v) = (m ((c : Thread nD τ).loc main_arg10) : Vec Ideal S30522 .f32) (ix1 v) := by
  entry_read
  exact asVocabRow _ v

/-- Every window takes the one block there is. -/
theorem idx0 : ∀ t : Fin cfg0.N, win0_0.index t = ![0, 0, 0] ∧ win0_1.index t = ![0, 0] ∧ win0_2.index t = ![0, 0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0, 0] ∧ win0_16.index t = ![0, 0] ∧ win0_17.index t = ![0, 0] ∧ win0_18.index t = ![0, 0] :=
  (by decide +kernel : ∀ t : Fin grid0.N, _)

/-- The block of the token codes. -/
theorem blk0 (c : Dev nD) (t : Fin cfg0.N) (b : Fin 128) (r : Fin 256) (k : Fin 768) : iblk m c 0 t (ix3 b r k) = (args m c).x b r k := by
  have e := (idx0 t).1
  refine Eq.trans ?_ (show (V m c main_arg0 : Vec Ideal S128x256x768 .fp8e4m3) (ix3 b r k) = (args m c).x b r k from congrFun (V_main_arg0 m c) (ix3 b r k))
  blk_simp [iblk]
  congr 1
  blk_ext [e]

/-- The block of the token scales. -/
theorem blk1 (c : Dev nD) (t : Fin cfg0.N) (b : Fin 128) (r : Fin 256) : iblk m c 1 t (ix2 b r) = (args m c).xs b r := by
  have e := (idx0 t).2.1
  refine Eq.trans ?_ (show (V m c main_arg1 : Vec Ideal S128x256 .f32) (ix2 b r) = (args m c).xs b r from congrFun (V_main_arg1 m c) (ix2 b r))
  blk_simp [iblk]
  congr 1
  blk_ext [e]

/-- The block of the lengths. -/
theorem blk2 (c : Dev nD) (t : Fin cfg0.N) (b : Fin 128) : iblk m c 2 t (ix3 b 0 0) = (args m c).lens b := by
  have e := (idx0 t).2.2.1
  refine Eq.trans ?_ (show (V m c main_v0 : Vec Ideal S128x1x1 .i32) (ix3 b 0 0) = (args m c).lens b from V_lens m c b)
  blk_simp [iblk]
  congr 1
  blk_ext [e]

/-- The block of the transform's codes. -/
theorem blk3 (c : Dev nD) (t : Fin cfg0.N) (k : Fin 768) (d : Fin 768) : iblk m c 3 t (ix2 k d) = (args m c).w k d := by
  have e := (idx0 t).2.2.2.1
  refine Eq.trans ?_ (show (V m c main_arg3 : Vec Ideal S768x768 .fp8e4m3) (ix2 k d) = (args m c).w k d from congrFun (V_main_arg3 m c) (ix2 k d))
  blk_simp [iblk]
  congr 1
  blk_ext [e]

/-- The block of the transform's scales. -/
theorem blk4 (c : Dev nD) (t : Fin cfg0.N) (d : Fin 768) : iblk m c 4 t (ix2 0 d) = (args m c).ws d := by
  have e := (idx0 t).2.2.2.2.1
  refine Eq.trans ?_ (show (V m c main_v1 : Vec Ideal S1x768 .f32) (ix2 0 d) = (args m c).ws d from V_ws m c d)
  blk_simp [iblk]
  congr 1
  blk_ext [e]

/-- The block of the transform's bias. -/
theorem blk5 (c : Dev nD) (t : Fin cfg0.N) (d : Fin 768) : iblk m c 5 t (ix2 0 d) = (args m c).bt d := by
  have e := (idx0 t).2.2.2.2.2.1
  refine Eq.trans ?_ (show (V m c main_v2 : Vec Ideal S1x768 .f32) (ix2 0 d) = (args m c).bt d from V_bt m c d)
  blk_simp [iblk]
  congr 1
  blk_ext [e]

/-- The block of the normalization's gain. -/
theorem blk6 (c : Dev nD) (t : Fin cfg0.N) (d : Fin 768) : iblk m c 6 t (ix2 0 d) = (args m c).ga d := by
  have e := (idx0 t).2.2.2.2.2.2.1
  refine Eq.trans ?_ (show (V m c main_v3 : Vec Ideal S1x768 .f32) (ix2 0 d) = (args m c).ga d from V_ga m c d)
  blk_simp [iblk]
  congr 1
  blk_ext [e]

/-- The block of the normalization's offset. -/
theorem blk7 (c : Dev nD) (t : Fin cfg0.N) (d : Fin 768) : iblk m c 7 t (ix2 0 d) = (args m c).be d := by
  have e := (idx0 t).2.2.2.2.2.2.2.1
  refine Eq.trans ?_ (show (V m c main_v4 : Vec Ideal S1x768 .f32) (ix2 0 d) = (args m c).be d from V_be m c d)
  blk_simp [iblk]
  congr 1
  blk_ext [e]

/-- The block of the vocabulary's codes. -/
theorem blk8 (c : Dev nD) (t : Fin cfg0.N) (v : Fin 30522) (k : Fin 768) : iblk m c 8 t (ix2 v k) = (args m c).emb v k := by
  have e := (idx0 t).2.2.2.2.2.2.2.2.1
  refine Eq.trans ?_ (show (V m c main_arg8 : Vec Ideal S30522x768 .fp8e4m3) (ix2 v k) = (args m c).emb v k from congrFun (V_main_arg8 m c) (ix2 v k))
  blk_simp [iblk]
  congr 1
  blk_ext [e]

/-- The block of the vocabulary's scales. -/
theorem blk9 (c : Dev nD) (t : Fin cfg0.N) (v : Fin 30522) : iblk m c 9 t (ix2 0 v) = (args m c).es v := by
  have e := (idx0 t).2.2.2.2.2.2.2.2.2.1
  refine Eq.trans ?_ (show (V m c main_v5 : Vec Ideal S1x30522 .f32) (ix2 0 v) = (args m c).es v from V_es m c v)
  blk_simp [iblk]
  congr 1
  blk_ext [e]

/-- The block of the vocabulary's bias. -/
theorem blk10 (c : Dev nD) (t : Fin cfg0.N) (v : Fin 30522) : iblk m c 10 t (ix2 0 v) = (args m c).bv v := by
  have e := (idx0 t).2.2.2.2.2.2.2.2.2.2.1
  refine Eq.trans ?_ (show (V m c main_v6 : Vec Ideal S1x30522 .f32) (ix2 0 v) = (args m c).bv v from V_bv m c v)
  blk_simp [iblk]
  congr 1
  blk_ext [e]

/-- The blocks the body is given are the arguments. -/
theorem blkArgs_eq (c : Dev nD) (t : Fin cfg0.N) :
    blkArgs (iblk m c 0 t) (iblk m c 1 t) (iblk m c 2 t) (iblk m c 3 t) (iblk m c 4 t) (iblk m c 5 t) (iblk m c 6 t) (iblk m c 7 t) (iblk m c 8 t) (iblk m c 9 t) (iblk m c 10 t) = args m c := by
  unfold blkArgs
  simp only [blk0, blk1, blk2, blk3, blk4, blk5, blk6, blk7, blk8, blk9, blk10]

/-! ## The arrays -/

/-- What the call leaves of the sparse representation. -/
theorem arr11 (c : Dev nD) : (dats m 0 c).arrAt 11 cfg0.N = (fun j => (args m c).rep (j 0) (j 1) : Vec Ideal S128x30522 .f32) := by
  refine (dats m 0 c).arrAt_eq_of_covers 11 _ (by decide +kernel) fun t hf y => ?_
  blk_simp
  rw [after0_11]
  obtain ⟨b, v, rfl⟩ : ∃ (b : Fin 128) (v : Fin 30522), y = ix2 b v := ⟨y 0, y 1, eq_ix2 y⟩
  have e := (idx0 t).2.2.2.2.2.2.2.2.2.2.2.1
  have hi : ((View.whole main_v7_0).slice (win0_11.rect t)).emb (ix2 b v) = (ix2 b v : S128x30522.Idx) := by
    blk_ext [e]
  refine (out11_at (iblk m c 0 t) (iblk m c 1 t) (iblk m c 2 t) (iblk m c 3 t) (iblk m c 4 t) (iblk m c 5 t) (iblk m c 6 t) (iblk m c 7 t) (iblk m c 8 t) (iblk m c 9 t) (iblk m c 10 t) b v).trans ?_
  rw [hi, blkArgs_eq]
  rfl

/-- What the call leaves of the documents' sums. -/
theorem arr12 (c : Dev nD) : (dats m 0 c).arrAt 12 cfg0.N = (fun j => (args m c).l1 (j 0) : Vec Ideal S128x1 .f32) := by
  refine (dats m 0 c).arrAt_eq_of_covers 12 _ (by decide +kernel) fun t hf y => ?_
  blk_simp
  rw [after0_12]
  obtain ⟨b, rfl⟩ : ∃ b : Fin 128, y = ix2 b (0 : Fin 1) := ⟨y 0, (eq_ix2 y).trans (by rw [Fin.fin_one_eq_zero (y 1)])⟩
  have e := (idx0 t).2.2.2.2.2.2.2.2.2.2.2.2.1
  have hi : ((View.whole main_v7_1).slice (win0_12.rect t)).emb (ix2 b (0 : Fin 1)) = (ix2 b (0 : Fin 1) : S128x1.Idx) := by
    blk_ext [e]
  refine (out12_at (iblk m c 0 t) (iblk m c 1 t) (iblk m c 2 t) (iblk m c 3 t) (iblk m c 4 t) (iblk m c 5 t) (iblk m c 6 t) (iblk m c 7 t) (iblk m c 8 t) (iblk m c 9 t) (iblk m c 10 t) b).trans ?_
  rw [hi, blkArgs_eq]
  rfl

/-- What the call leaves of the entries' means. -/
theorem arr13 (c : Dev nD) : (dats m 0 c).arrAt 13 cfg0.N = (fun j => (args m c).mean (j 1) : Vec Ideal S1x30522 .f32) := by
  refine (dats m 0 c).arrAt_eq_of_covers 13 _ (by decide +kernel) fun t hf y => ?_
  blk_simp
  rw [after0_13]
  obtain ⟨v, rfl⟩ : ∃ v : Fin 30522, y = ix2 (0 : Fin 1) v := ⟨y 1, (eq_ix2 y).trans (by rw [Fin.fin_one_eq_zero (y 0)])⟩
  have e := (idx0 t).2.2.2.2.2.2.2.2.2.2.2.2.2.1
  have hi : ((View.whole main_v7_2).slice (win0_13.rect t)).emb (ix2 (0 : Fin 1) v) = (ix2 (0 : Fin 1) v : S1x30522.Idx) := by
    blk_ext [e]
  refine (out13_at (iblk m c 0 t) (iblk m c 1 t) (iblk m c 2 t) (iblk m c 3 t) (iblk m c 4 t) (iblk m c 5 t) (iblk m c 6 t) (iblk m c 7 t) (iblk m c 8 t) (iblk m c 9 t) (iblk m c 10 t) v).trans ?_
  rw [hi, blkArgs_eq]
  rfl

/-- What the call leaves of the sum of the squared means. -/
theorem arr14 (c : Dev nD) : (dats m 0 c).arrAt 14 cfg0.N = (fun _ => (args m c).flops : Vec Ideal S1x1 .f32) := by
  refine (dats m 0 c).arrAt_eq_of_covers 14 _ (by decide +kernel) fun t hf y => ?_
  blk_simp
  rw [after0_14]
  obtain rfl : y = ix2 (0 : Fin 1) (0 : Fin 1) := (eq_ix2 y).trans (by rw [Fin.fin_one_eq_zero (y 0), Fin.fin_one_eq_zero (y 1)])
  have e := (idx0 t).2.2.2.2.2.2.2.2.2.2.2.2.2.2.1
  have hi : ((View.whole main_v7_3).slice (win0_14.rect t)).emb (ix2 (0 : Fin 1) (0 : Fin 1)) = (ix2 (0 : Fin 1) (0 : Fin 1) : S1x1.Idx) := by
    blk_ext [e]
  refine (out14_at (iblk m c 0 t) (iblk m c 1 t) (iblk m c 2 t) (iblk m c 3 t) (iblk m c 4 t) (iblk m c 5 t) (iblk m c 6 t) (iblk m c 7 t) (iblk m c 8 t) (iblk m c 9 t) (iblk m c 10 t) ).trans ?_
  rw [blkArgs_eq]

/-- What the call leaves of the tokens' codes. -/
theorem arr15 (c : Dev nD) : (dats m 0 c).arrAt 15 cfg0.N = (fun j => (args m c).z (j 0) (j 1) (j 2) : Vec Ideal S128x256x768 .fp8e4m3) := by
  refine (dats m 0 c).arrAt_eq_of_covers 15 _ (by decide +kernel) fun t hf y => ?_
  blk_simp
  rw [after0_15]
  obtain ⟨b, r, d, rfl⟩ : ∃ (b : Fin 128) (r : Fin 256) (d : Fin 768), y = ix3 b r d := ⟨y 0, y 1, y 2, eq_ix3 y⟩
  have e := (idx0 t).2.2.2.2.2.2.2.2.2.2.2.2.2.2.2.1
  have hi : ((View.whole main_v7_4).slice (win0_15.rect t)).emb (ix3 b r d) = (ix3 b r d : S128x256x768.Idx) := by
    blk_ext [e]
  refine (out15_at (iblk m c 0 t) (iblk m c 1 t) (iblk m c 2 t) (iblk m c 3 t) (iblk m c 4 t) (iblk m c 5 t) (iblk m c 6 t) (iblk m c 7 t) (iblk m c 8 t) (iblk m c 9 t) (iblk m c 10 t) b r d).trans ?_
  rw [hi, blkArgs_eq]
  rfl

/-- What the call leaves of the tokens' scales. -/
theorem arr16 (c : Dev nD) : (dats m 0 c).arrAt 16 cfg0.N = (fun j => (args m c).zs (j 0) (j 1) : Vec Ideal S128x256 .f32) := by
  refine (dats m 0 c).arrAt_eq_of_covers 16 _ (by decide +kernel) fun t hf y => ?_
  blk_simp
  rw [after0_16]
  obtain ⟨b, r, rfl⟩ : ∃ (b : Fin 128) (r : Fin 256), y = ix2 b r := ⟨y 0, y 1, eq_ix2 y⟩
  have e := (idx0 t).2.2.2.2.2.2.2.2.2.2.2.2.2.2.2.2.1
  have hi : ((View.whole main_v7_5).slice (win0_16.rect t)).emb (ix2 b r) = (ix2 b r : S128x256.Idx) := by
    blk_ext [e]
  refine (out16_at (iblk m c 0 t) (iblk m c 1 t) (iblk m c 2 t) (iblk m c 3 t) (iblk m c 4 t) (iblk m c 5 t) (iblk m c 6 t) (iblk m c 7 t) (iblk m c 8 t) (iblk m c 9 t) (iblk m c 10 t) b r).trans ?_
  rw [hi, blkArgs_eq]
  rfl

/-- What the call leaves of the representation's codes. -/
theorem arr17 (c : Dev nD) : (dats m 0 c).arrAt 17 cfg0.N = (fun j => (args m c).codes (j 0) (j 1) : Vec Ideal S128x30522 .i8) := by
  refine (dats m 0 c).arrAt_eq_of_covers 17 _ (by decide +kernel) fun t hf y => ?_
  blk_simp
  rw [after0_17]
  obtain ⟨b, v, rfl⟩ : ∃ (b : Fin 128) (v : Fin 30522), y = ix2 b v := ⟨y 0, y 1, eq_ix2 y⟩
  have e := (idx0 t).2.2.2.2.2.2.2.2.2.2.2.2.2.2.2.2.2.1
  have hi : ((View.whole main_v7_6).slice (win0_17.rect t)).emb (ix2 b v) = (ix2 b v : S128x30522.Idx) := by
    blk_ext [e]
  refine (out17_at (iblk m c 0 t) (iblk m c 1 t) (iblk m c 2 t) (iblk m c 3 t) (iblk m c 4 t) (iblk m c 5 t) (iblk m c 6 t) (iblk m c 7 t) (iblk m c 8 t) (iblk m c 9 t) (iblk m c 10 t) b v).trans ?_
  rw [hi, blkArgs_eq]
  rfl

/-- What the call leaves of the codes' scales. -/
theorem arr18 (c : Dev nD) : (dats m 0 c).arrAt 18 cfg0.N = (fun j => (args m c).scale (j 0) : Vec Ideal S128x1 .f32) := by
  refine (dats m 0 c).arrAt_eq_of_covers 18 _ (by decide +kernel) fun t hf y => ?_
  blk_simp
  rw [after0_18]
  obtain ⟨b, rfl⟩ : ∃ b : Fin 128, y = ix2 b (0 : Fin 1) := ⟨y 0, (eq_ix2 y).trans (by rw [Fin.fin_one_eq_zero (y 1)])⟩
  have e := (idx0 t).2.2.2.2.2.2.2.2.2.2.2.2.2.2.2.2.2.2
  have hi : ((View.whole main_v7_7).slice (win0_18.rect t)).emb (ix2 b (0 : Fin 1)) = (ix2 b (0 : Fin 1) : S128x1.Idx) := by
    blk_ext [e]
  refine (out18_at (iblk m c 0 t) (iblk m c 1 t) (iblk m c 2 t) (iblk m c 3 t) (iblk m c 4 t) (iblk m c 5 t) (iblk m c 6 t) (iblk m c 7 t) (iblk m c 8 t) (iblk m c 9 t) (iblk m c 10 t) b).trans ?_
  rw [hi, blkArgs_eq]
  rfl

end Cert.ReferenceIdeal.Whole

end
-- ==== Proof.RI.Run.lean ====
/- The reference's run over the extended reals: it leaves the eight results of the specification and its arguments. -/
module

public import proofs.«01_k».proof.Proof.RI.Result
public import proofs.«01_k».proof.Proof.Results

@[expose] public section

set_option maxRecDepth 16384

noncomputable section

namespace Cert.ReferenceIdeal.Whole

open Cert.ReferenceIdeal.Gen Cert.Splade
open Idealize.ShloMosaic Idealize.ShloMosaic.TcCoe Idealize.SL.Sem

/-! ## The reshapes after the call -/

section
variable (W : Valuation τ sig (Elt Ideal))

/-- The documents' sums, as a vector. -/
theorem tail_l1 (b : Fin 128) :
    (StableHlo.after hostOps1 W (Proc.devRef .tc main_v8) : Vec Ideal S128 .f32) (ix1 b) = (W (Proc.devRef .tc main_v7_1) : Vec Ideal S128x1 .f32) (ix2 b 0) := by
  after_results
  exact ofColumn _ b

/-- The entries' means, as a vector. -/
theorem tail_mean (v : Fin 30522) :
    (StableHlo.after hostOps1 W (Proc.devRef .tc main_v9) : Vec Ideal S30522 .f32) (ix1 v) = (W (Proc.devRef .tc main_v7_2) : Vec Ideal S1x30522 .f32) (ix2 0 v) := by
  after_results
  exact ofVocabRow _ v

/-- The sum of squares, as a scalar. -/
theorem tail_flops (i : S_.Idx) :
    (StableHlo.after hostOps1 W (Proc.devRef .tc main_v10) : Vec Ideal S_ .f32) i = (W (Proc.devRef .tc main_v7_3) : Vec Ideal S1x1 .f32) (ix2 0 0) := by
  after_results
  exact ofUnit _ i

/-- The codes' scales, as a vector. -/
theorem tail_scale (b : Fin 128) :
    (StableHlo.after hostOps1 W (Proc.devRef .tc main_v11) : Vec Ideal S128 .f32) (ix1 b) = (W (Proc.devRef .tc main_v7_7) : Vec Ideal S128x1 .f32) (ix2 b 0) := by
  after_results
  exact ofColumn _ b

end

variable (m : (ℓ : Loc nD τ sig) → Buf (Elt Ideal) ℓ) (ρ : Dev nD → PrngReg)

/-- The contents when the call returns: its arrays as the call leaves them, the rest as the call finds it. -/
abbrev atReturn (c : Dev nD) := Pipeline.withArrays spec0 c (V0 m c) fun w => (dats m 0 c).arrAt w cfg0.N

/-- A window's array when the call returns. -/
theorem atReturn_arr (c : Dev nD) (w : Fin cfg0.W) : atReturn m c (Proc.devRef .tc (Pipeline.arrRef spec0 w)) = (dats m 0 c).arrAt w cfg0.N :=
  Pipeline.withArrays_arr spec0 launch0.win.arr_inj c _ _ w

/-- The documents' sums, as a vector: what the specification gives. -/
theorem end_l1 (c : Dev nD) : Pipeline.afterTail₀ cfgs (dats m) 0 (V0 m) [hostOps1] c main_v8 = (args m c).out1 := by
  show StableHlo.after hostOps1 (atReturn m c) (Proc.devRef .tc main_v8) = _
  funext j
  obtain ⟨b, rfl⟩ : ∃ b : Fin 128, j = ix1 b := ⟨j 0, eq_ix1 j⟩
  exact (tail_l1 (atReturn m c) b).trans (congrFun ((atReturn_arr m c 12).trans (arr12 m c)) (ix2 b 0))

/-- The entries' means, as a vector: what the specification gives. -/
theorem end_mean (c : Dev nD) : Pipeline.afterTail₀ cfgs (dats m) 0 (V0 m) [hostOps1] c main_v9 = (args m c).out2 := by
  show StableHlo.after hostOps1 (atReturn m c) (Proc.devRef .tc main_v9) = _
  funext j
  obtain ⟨v, rfl⟩ : ∃ v : Fin 30522, j = ix1 v := ⟨j 0, eq_ix1 j⟩
  exact (tail_mean (atReturn m c) v).trans (congrFun ((atReturn_arr m c 13).trans (arr13 m c)) (ix2 0 v))

/-- The sum of squares, as a scalar: what the specification gives. -/
theorem end_flops (c : Dev nD) : Pipeline.afterTail₀ cfgs (dats m) 0 (V0 m) [hostOps1] c main_v10 = (args m c).out3 := by
  show StableHlo.after hostOps1 (atReturn m c) (Proc.devRef .tc main_v10) = _
  funext j
  exact (tail_flops (atReturn m c) j).trans (congrFun ((atReturn_arr m c 14).trans (arr14 m c)) (ix2 0 0))

/-- The codes' scales, as a vector: what the specification gives. -/
theorem end_scale (c : Dev nD) : Pipeline.afterTail₀ cfgs (dats m) 0 (V0 m) [hostOps1] c main_v11 = (args m c).out7 := by
  show StableHlo.after hostOps1 (atReturn m c) (Proc.devRef .tc main_v11) = _
  funext j
  obtain ⟨b, rfl⟩ : ∃ b : Fin 128, j = ix1 b := ⟨j 0, eq_ix1 j⟩
  exact (tail_scale (atReturn m c) b).trans (congrFun ((atReturn_arr m c 18).trans (arr18 m c)) (ix2 b 0))

/-- From any memory, the reference's run ends with the eight results the specification gives of its
arguments. -/
theorem run : θ_run (defs (F := Ideal)) (onTc (τ := τ) (main (F := Ideal))) ⟨m, fun _ => 0, ρ⟩ (fun r => ∀ c : Dev nD,
    r.2.mem ((c.tc : Thread nD τ).loc main_v7_0) = (args m c).out0 ∧
    r.2.mem ((c.tc : Thread nD τ).loc main_v8) = (args m c).out1 ∧
    r.2.mem ((c.tc : Thread nD τ).loc main_v9) = (args m c).out2 ∧
    r.2.mem ((c.tc : Thread nD τ).loc main_v10) = (args m c).out3 ∧
    r.2.mem ((c.tc : Thread nD τ).loc main_v7_4) = (args m c).out4 ∧
    r.2.mem ((c.tc : Thread nD τ).loc main_v7_5) = (args m c).out5 ∧
    r.2.mem ((c.tc : Thread nD τ).loc main_v7_6) = (args m c).out6 ∧
    r.2.mem ((c.tc : Thread nD τ).loc main_v11) = (args m c).out7) :=
  θ_run_mono (run_main m ρ) fun _ h c =>
    ⟨((h c).1 11).trans (arr11 m c),
     ((h c).2 main_v8 (Pipeline.mem_restRefs_of main_v8 (by decide) (by decide))).trans (end_l1 m c),
     ((h c).2 main_v9 (Pipeline.mem_restRefs_of main_v9 (by decide) (by decide))).trans (end_mean m c),
     ((h c).2 main_v10 (Pipeline.mem_restRefs_of main_v10 (by decide) (by decide))).trans (end_flops m c),
     ((h c).1 15).trans (arr15 m c),
     ((h c).1 16).trans (arr16 m c),
     ((h c).1 17).trans (arr17 m c),
     ((h c).2 main_v11 (Pipeline.mem_restRefs_of main_v11 (by decide) (by decide))).trans (end_scale m c)⟩

end Cert.ReferenceIdeal.Whole

end
-- ==== Proof.lean ====
/- The claims: each of the three programs runs to the end, leaves its arguments as they were and its semaphores at zero,
   the kernel's idealization differs from the kernel only by the named constant `1/768`, and over the extended reals the
   kernel and the reference give the same eight results. -/
module

public import proofs.«01_k».proof.Defs
public import proofs.«01_k».proof.Proof.K.Run
public import proofs.«01_k».proof.Proof.KI.Result
public import proofs.«01_k».proof.Proof.RI.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Splade

/-- The kernel leaves its arguments unchanged. -/
theorem frame_kernel : Cert.quiescent_Kernel := fun m ρ _ => Cert.Kernel.Whole.frame m ρ

/-- The kernel's idealization leaves its arguments unchanged. -/
theorem frame_kernelIdeal : Cert.quiescent_KernelIdeal := fun m ρ _ => Cert.KernelIdeal.Whole.frame m ρ

/-- The reference's idealization leaves its arguments unchanged. -/
theorem frame_referenceIdeal : Cert.quiescent_ReferenceIdeal := fun m ρ _ => Cert.ReferenceIdeal.Gen.frame m ρ

/-- The one rewrite of the idealization: the constant named `inv_d` is `1/768`. -/
theorem preserves : Cert.preserves_Kernel_KernelIdeal :=
  IdealRules.named_const.statement Cert.KernelIdeal.κ "inv_d" .f32 0x3AAAAAAB#32 ((1 / 768 : ℝ) : EReal) rfl

/-- From any memory, the idealized kernel's run ends with the eight results the specification gives of its arguments,
and with the arguments as they were. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v12_0) = (KernelIdeal.Whole.args m c).out0 ∧
      r.2.mem ((c.tc : Thread KernelIdeal.nD KernelIdeal.τ).loc KernelIdeal.main_v14) = (KernelIdeal.Whole.args m c).out1 ∧
      r.2.mem ((c.tc : Thread KernelIdeal.nD KernelIdeal.τ).loc KernelIdeal.main_v15) = (KernelIdeal.Whole.args m c).out2 ∧
      r.2.mem ((c.tc : Thread KernelIdeal.nD KernelIdeal.τ).loc KernelIdeal.main_v17) = (KernelIdeal.Whole.args m c).out3 ∧
      r.2.mem ((c.tc : Thread KernelIdeal.nD KernelIdeal.τ).loc KernelIdeal.main_v18) = (KernelIdeal.Whole.args m c).out4 ∧
      r.2.mem ((c.tc : Thread KernelIdeal.nD KernelIdeal.τ).loc KernelIdeal.main_v19) = (KernelIdeal.Whole.args m c).out5 ∧
      r.2.mem ((c.tc : Thread KernelIdeal.nD KernelIdeal.τ).loc KernelIdeal.main_v12_4) = (KernelIdeal.Whole.args m c).out6 ∧
      r.2.mem ((c.tc : Thread KernelIdeal.nD KernelIdeal.τ).loc KernelIdeal.main_v21) = (KernelIdeal.Whole.args m c).out7 ∧
      r.2.mem ((c.tc : Thread KernelIdeal.nD KernelIdeal.τ).loc KernelIdeal.main_arg0) = m ((c.tc : Thread KernelIdeal.nD KernelIdeal.τ).loc KernelIdeal.main_arg0) ∧
      r.2.mem ((c.tc : Thread KernelIdeal.nD KernelIdeal.τ).loc KernelIdeal.main_arg1) = m ((c.tc : Thread KernelIdeal.nD KernelIdeal.τ).loc KernelIdeal.main_arg1) ∧
      r.2.mem ((c.tc : Thread KernelIdeal.nD KernelIdeal.τ).loc KernelIdeal.main_arg2) = m ((c.tc : Thread KernelIdeal.nD KernelIdeal.τ).loc KernelIdeal.main_arg2) ∧
      r.2.mem ((c.tc : Thread KernelIdeal.nD KernelIdeal.τ).loc KernelIdeal.main_arg3) = m ((c.tc : Thread KernelIdeal.nD KernelIdeal.τ).loc KernelIdeal.main_arg3) ∧
      r.2.mem ((c.tc : Thread KernelIdeal.nD KernelIdeal.τ).loc KernelIdeal.main_arg4) = m ((c.tc : Thread KernelIdeal.nD KernelIdeal.τ).loc KernelIdeal.main_arg4) ∧
      r.2.mem ((c.tc : Thread KernelIdeal.nD KernelIdeal.τ).loc KernelIdeal.main_arg5) = m ((c.tc : Thread KernelIdeal.nD KernelIdeal.τ).loc KernelIdeal.main_arg5) ∧
      r.2.mem ((c.tc : Thread KernelIdeal.nD KernelIdeal.τ).loc KernelIdeal.main_arg6) = m ((c.tc : Thread KernelIdeal.nD KernelIdeal.τ).loc KernelIdeal.main_arg6) ∧
      r.2.mem ((c.tc : Thread KernelIdeal.nD KernelIdeal.τ).loc KernelIdeal.main_arg7) = m ((c.tc : Thread KernelIdeal.nD KernelIdeal.τ).loc KernelIdeal.main_arg7) ∧
      r.2.mem ((c.tc : Thread KernelIdeal.nD KernelIdeal.τ).loc KernelIdeal.main_arg8) = m ((c.tc : Thread KernelIdeal.nD KernelIdeal.τ).loc KernelIdeal.main_arg8) ∧
      r.2.mem ((c.tc : Thread KernelIdeal.nD KernelIdeal.τ).loc KernelIdeal.main_arg9) = m ((c.tc : Thread KernelIdeal.nD KernelIdeal.τ).loc KernelIdeal.main_arg9) ∧
      r.2.mem ((c.tc : Thread KernelIdeal.nD KernelIdeal.τ).loc KernelIdeal.main_arg10) = m ((c.tc : Thread KernelIdeal.nD KernelIdeal.τ).loc KernelIdeal.main_arg10)) :=
  θ_run_mono (KernelIdeal.Whole.run_mem m g) fun _ h c =>
    ⟨(h.1 c _ (KernelIdeal.Whole.mem_uc KernelIdeal.main_v12_0 (by decide))).trans (KernelIdeal.Whole.res0 m g c),
     (h.1 c _ (KernelIdeal.Whole.mem_uc KernelIdeal.main_v14 (by decide))).trans (KernelIdeal.Whole.res1 m g c),
     (h.1 c _ (KernelIdeal.Whole.mem_uc KernelIdeal.main_v15 (by decide))).trans (KernelIdeal.Whole.res2 m g c),
     (h.1 c _ (KernelIdeal.Whole.mem_uc KernelIdeal.main_v17 (by decide))).trans (KernelIdeal.Whole.res3 m g c),
     (h.1 c _ (KernelIdeal.Whole.mem_uc KernelIdeal.main_v18 (by decide))).trans (KernelIdeal.Whole.res4 m g c),
     (h.1 c _ (KernelIdeal.Whole.mem_uc KernelIdeal.main_v19 (by decide))).trans (KernelIdeal.Whole.res5 m g c),
     (h.1 c _ (KernelIdeal.Whole.mem_uc KernelIdeal.main_v12_4 (by decide))).trans (KernelIdeal.Whole.res6 m g c),
     (h.1 c _ (KernelIdeal.Whole.mem_uc KernelIdeal.main_v21 (by decide))).trans (KernelIdeal.Whole.res7 m g c),
     (h.1 c _ (KernelIdeal.Whole.mem_uc KernelIdeal.main_arg0 (by decide))).trans (KernelIdeal.Whole.W6_args m g c KernelIdeal.main_arg0 (by decide)),
     (h.1 c _ (KernelIdeal.Whole.mem_uc KernelIdeal.main_arg1 (by decide))).trans (KernelIdeal.Whole.W6_args m g c KernelIdeal.main_arg1 (by decide)),
     (h.1 c _ (KernelIdeal.Whole.mem_uc KernelIdeal.main_arg2 (by decide))).trans (KernelIdeal.Whole.W6_args m g c KernelIdeal.main_arg2 (by decide)),
     (h.1 c _ (KernelIdeal.Whole.mem_uc KernelIdeal.main_arg3 (by decide))).trans (KernelIdeal.Whole.W6_args m g c KernelIdeal.main_arg3 (by decide)),
     (h.1 c _ (KernelIdeal.Whole.mem_uc KernelIdeal.main_arg4 (by decide))).trans (KernelIdeal.Whole.W6_args m g c KernelIdeal.main_arg4 (by decide)),
     (h.1 c _ (KernelIdeal.Whole.mem_uc KernelIdeal.main_arg5 (by decide))).trans (KernelIdeal.Whole.W6_args m g c KernelIdeal.main_arg5 (by decide)),
     (h.1 c _ (KernelIdeal.Whole.mem_uc KernelIdeal.main_arg6 (by decide))).trans (KernelIdeal.Whole.W6_args m g c KernelIdeal.main_arg6 (by decide)),
     (h.1 c _ (KernelIdeal.Whole.mem_uc KernelIdeal.main_arg7 (by decide))).trans (KernelIdeal.Whole.W6_args m g c KernelIdeal.main_arg7 (by decide)),
     (h.1 c _ (KernelIdeal.Whole.mem_uc KernelIdeal.main_arg8 (by decide))).trans (KernelIdeal.Whole.W6_args m g c KernelIdeal.main_arg8 (by decide)),
     (h.1 c _ (KernelIdeal.Whole.mem_uc KernelIdeal.main_arg9 (by decide))).trans (KernelIdeal.Whole.W6_args m g c KernelIdeal.main_arg9 (by decide)),
     (h.1 c _ (KernelIdeal.Whole.mem_uc KernelIdeal.main_arg10 (by decide))).trans (KernelIdeal.Whole.W6_args m g c KernelIdeal.main_arg10 (by decide))⟩

/-- Over the extended reals, from memories that agree on the arguments, the kernel and the reference end with the same
eight results, and with their arguments as they were. -/
theorem algebraic : Cert.algebraic_KernelIdeal_ReferenceIdeal := by
  intro m g m' g' _ hagree
  have hargs : ∀ c, ReferenceIdeal.Whole.args m' c = KernelIdeal.Whole.args m c := by
    intro c
    obtain ⟨h0, h1, h2, h3, h4, h5, h6, h7, h8, h9, h10⟩ := hagree c
    unfold ReferenceIdeal.Whole.args KernelIdeal.Whole.args
    rw [h0, h1, h2, h3, h4, h5, h6, h7, h8, h9, h10]
  refine ⟨fun c => (KernelIdeal.Whole.args m c).out0, fun c => (KernelIdeal.Whole.args m c).out1,
    fun c => (KernelIdeal.Whole.args m c).out2, fun c => (KernelIdeal.Whole.args m c).out3,
    fun c => (KernelIdeal.Whole.args m c).out4, fun c => (KernelIdeal.Whole.args m c).out5,
    fun c => (KernelIdeal.Whole.args m c).out6, fun c => (KernelIdeal.Whole.args m c).out7, kernel_run m g, ?_⟩
  refine θ_run_mono (θ_run_and (ReferenceIdeal.Whole.run m' g') (ReferenceIdeal.Gen.unchanged m' g')) fun r h c => ?_
  obtain ⟨r0, r1, r2, r3, r4, r5, r6, r7⟩ := h.1 c
  have e := hargs c
  exact ⟨r0.trans (congrArg Args.out0 e), r1.trans (congrArg Args.out1 e), r2.trans (congrArg Args.out2 e),
    r3.trans (congrArg Args.out3 e), r4.trans (congrArg Args.out4 e), r5.trans (congrArg Args.out5 e),
    r6.trans (congrArg Args.out6 e), r7.trans (congrArg Args.out7 e), h.2 c⟩

/-- Everything the certificate claims. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
